-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_acc_is_ones [hPre_acc_is_ones : Cert.Pre_acc_is_ones.Facts] (m : (ℓ : Loc Cert.KernelIdeal.nD Cert.KernelIdeal.τ Cert.KernelIdeal.sig) → Buf (Elt Ideal) ℓ) : Prop :=
  ∀ c : Dev Cert.KernelIdeal.nD,
    (Cert.Pre_acc_is_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_acc_is_ones [hPre_acc_is_ones : Cert.Pre_acc_is_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_acc_is_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_acc_is_ones [hKernelIdeal : Cert.KernelIdeal.Facts] [hPre_acc_is_ones : Cert.Pre_acc_is_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_acc_is_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_acc_is_ones [hReferenceIdeal : Cert.ReferenceIdeal.Facts] [hPre_acc_is_ones : Cert.Pre_acc_is_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_acc_is_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_acc_is_ones [hKernelIdeal : Cert.KernelIdeal.Facts] [hReferenceIdeal : Cert.ReferenceIdeal.Facts] [hPre_acc_is_ones : Cert.Pre_acc_is_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_acc_is_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_acc_is_ones : Cert.Pre_acc_is_ones.Facts),
    quiescent_Kernel (hKernel := hKernel)
    ∧ quiescent_KernelIdeal (hKernelIdeal := hKernelIdeal)
    ∧ quiescent_KernelIdeal_pre_acc_is_ones (hKernelIdeal := hKernelIdeal) (hPre_acc_is_ones := hPre_acc_is_ones)
    ∧ quiescent_ReferenceIdeal (hReferenceIdeal := hReferenceIdeal)
    ∧ quiescent_ReferenceIdeal_pre_acc_is_ones (hReferenceIdeal := hReferenceIdeal) (hPre_acc_is_ones := hPre_acc_is_ones)
    ∧ preserves_Kernel_KernelIdeal
    ∧ algebraic_KernelIdeal_ReferenceIdeal_pre_acc_is_ones (hKernelIdeal := hKernelIdeal) (hReferenceIdeal := hReferenceIdeal) (hPre_acc_is_ones := hPre_acc_is_ones)
-- ==== Pre_acc_is_ones.lean ====
abbrev S1x2x512x512 : Shape := ⟨4, ![1, 2, 512, 512]⟩
abbrev S10x2x1x1 : Shape := ⟨4, ![10, 2, 1, 1]⟩
abbrev S8x1x4x4 : Shape := ⟨4, ![8, 1, 4, 4]⟩
abbrev S_ : Shape := ⟨0, ![]⟩

class Facts : Prop where
  bcast_S_S8x1x4x4 : S_.BroadcastsInDim S8x1x4x4 (![] : Fin 0 → Fin S8x1x4x4.rank)

variable [Facts]

def fn {F : FTy → Type} [FloatOps F] (main_arg0 : FVec F S1x2x512x512 .f32) (main_arg1 : FVec F S10x2x1x1 .f32) (main_arg2 : FVec F S8x1x4x4 .f32) : IVec S8x1x4x4 1 :=
  let main_cst : FVec F S_ .f32 := constant S_ .f32 0x3F800000#32
  let main_v0 : FVec F S8x1x4x4 .f32 := broadcastInDim S8x1x4x4 ![] bcast_S_S8x1x4x4 main_cst
  let main_v1 : IVec S8x1x4x4 1 := cmpf .oeq main_arg2 main_v0
  main_v1
-- ==== Kernel.lean ====
abbrev S1x2x512x512 : Shape := ⟨4, ![1, 2, 512, 512]⟩
abbrev S10x2x1x1 : Shape := ⟨4, ![10, 2, 1, 1]⟩
abbrev S8x1x4x4 : Shape := ⟨4, ![8, 1, 4, 4]⟩
abbrev S10x2 : Shape := ⟨2, ![10, 2]⟩
abbrev S2x512x512 : Shape := ⟨3, ![2, 512, 512]⟩
abbrev S1x8x513x513 : Shape := ⟨4, ![1, 8, 513, 513]⟩
abbrev S1x1x513x513 : Shape := ⟨4, ![1, 1, 513, 513]⟩
abbrev S512x512 : Shape := ⟨2, ![512, 512]⟩
abbrev S1x512x512 : Shape := ⟨3, ![1, 512, 512]⟩
abbrev S1x1 : Shape := ⟨2, ![1, 1]⟩
abbrev S2x512 : Shape := ⟨2, ![2, 512]⟩
abbrev S514x512 : Shape := ⟨2, ![514, 512]⟩
abbrev S3x512 : Shape := ⟨2, ![3, 512]⟩
abbrev S517x512 : Shape := ⟨2, ![517, 512]⟩
abbrev S517x2 : Shape := ⟨2, ![517, 2]⟩
abbrev S517x514 : Shape := ⟨2, ![517, 514]⟩
abbrev S517x3 : Shape := ⟨2, ![517, 3]⟩
abbrev S517x517 : Shape := ⟨2, ![517, 517]⟩
abbrev S517x515 : Shape := ⟨2, ![517, 515]⟩
abbrev S517x513 : Shape := ⟨2, ![517, 513]⟩
abbrev S515x513 : Shape := ⟨2, ![515, 513]⟩
abbrev S513x513 : Shape := ⟨2, ![513, 513]⟩

abbrev nBuf : Space → Nat
  | .hbm => 9
  | .vmem => 5
  | .smem => 1
  | _ => 0

abbrev bufTy : (tb : Table) → Fin (tcTables nBuf tb) → BufTy
  | .hbm, ⟨0, _⟩ => ⟨S1x2x512x512, .f32⟩
  | .hbm, ⟨1, _⟩ => ⟨S10x2x1x1, .f32⟩
  | .hbm, ⟨2, _⟩ => ⟨S8x1x4x4, .f32⟩
  | .hbm, ⟨3, _⟩ => ⟨S10x2, .f32⟩
  | .hbm, ⟨4, _⟩ => ⟨S10x2, .bf16⟩
  | .hbm, ⟨5, _⟩ => ⟨S10x2, .f32⟩
  | .hbm, ⟨6, _⟩ => ⟨S2x512x512, .f32⟩
  | .hbm, ⟨7, _⟩ => ⟨S2x512x512, .bf16⟩
  | .hbm, ⟨8, _⟩ => ⟨S1x8x513x513, .f32⟩
  | .local _ .vmem, ⟨0, _⟩ => ⟨S2x512x512, .bf16⟩
  | .local _ .vmem, ⟨1, _⟩ => ⟨S1x1x513x513, .f32⟩
  | .local _ .vmem, ⟨2, _⟩ => ⟨S1x1x513x513, .f32⟩
  | .local _ .vmem, ⟨3, _⟩ => ⟨S512x512, .i32⟩
  | .local _ .vmem, ⟨4, _⟩ => ⟨S512x512, .f32⟩
  | .local _ .smem, ⟨0, _⟩ => ⟨S10x2, .f32⟩
  | _, _ => ⟨S1x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S10x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x513x513 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x2x512x512 : Shape := ⟨4, ![1, 2, 512, 512]⟩
abbrev S10x2x1x1 : Shape := ⟨4, ![10, 2, 1, 1]⟩
abbrev S8x1x4x4 : Shape := ⟨4, ![8, 1, 4, 4]⟩
abbrev S10x2 : Shape := ⟨2, ![10, 2]⟩
abbrev S1x512x512x10 : Shape := ⟨4, ![1, 512, 512, 10]⟩
abbrev S1x10x512x512 : Shape := ⟨4, ![1, 10, 512, 512]⟩
abbrev S1x8x512x512 : Shape := ⟨4, ![1, 8, 512, 512]⟩
abbrev S_ : Shape := ⟨0, ![]⟩
abbrev S1x512x512 : Shape := ⟨3, ![1, 512, 512]⟩
abbrev S1x512x512x1 : Shape := ⟨4, ![1, 512, 512, 1]⟩
abbrev S1x1x1x8 : Shape := ⟨4, ![1, 1, 1, 8]⟩
abbrev S1x512x512x8 : Shape := ⟨4, ![1, 512, 512, 8]⟩
abbrev S1x1x512x512 : Shape := ⟨4, ![1, 1, 512, 512]⟩
abbrev S1x8x516x516 : Shape := ⟨4, ![1, 8, 516, 516]⟩
abbrev S1x8x4x4 : Shape := ⟨4, ![1, 8, 4, 4]⟩
abbrev S1x8x1x1 : Shape := ⟨4, ![1, 8, 1, 1]⟩
abbrev S1x8x513x513 : Shape := ⟨4, ![1, 8, 513, 513]⟩

abbrev nBuf : Space → Nat
  | .hbm => 113
  | .vmem => 0
  | .smem => 0
  | _ => 0

abbrev bufTy : (tb : Table) → Fin (tcTables nBuf tb) → BufTy
  | .hbm, ⟨0, _⟩ => ⟨S1x2x512x512, .f32⟩
  | .hbm, ⟨1, _⟩ => ⟨S10x2x1x1, .f32⟩
  | .hbm, ⟨2, _⟩ => ⟨S8x1x4x4, .f32⟩
  | .hbm, ⟨3, _⟩ => ⟨S10x2, .f32⟩
  | .hbm, ⟨4, _⟩ => ⟨S1x512x512x10, .f32⟩
  | .hbm, ⟨5, _⟩ => ⟨S1x10x512x512, .f32⟩
  | .hbm, ⟨6, _⟩ => ⟨S1x8x512x512, .f32⟩
  | .hbm, ⟨7, _⟩ => ⟨S1x2x512x512, .f32⟩
  | .hbm, ⟨8, _⟩ => ⟨S1x2x512x512, .f32⟩
  | .hbm, ⟨9, _⟩ => ⟨S_, .f32⟩
  | .hbm, ⟨10, _⟩ => ⟨S1x512x512, .f32⟩
  | .hbm, ⟨11, _⟩ => ⟨S1x512x512, .f32⟩
  | .hbm, ⟨12, _⟩ => ⟨S1x8x512x512, .i32⟩
  | .hbm, ⟨13, _⟩ => ⟨S_, .f32⟩
  | .hbm, ⟨14, _⟩ => ⟨S_, .i32⟩
  | .hbm, ⟨15, _⟩ => ⟨S1x512x512, .f32⟩
  | .hbm, ⟨16, _⟩ => ⟨S1x512x512, .i32⟩
  | .hbm, ⟨17, _⟩ => ⟨S1x512x512x1, .i32⟩
  | .hbm, ⟨18, _⟩ => ⟨S1x1x1x8, .i32⟩
  | .hbm, ⟨19, _⟩ => ⟨S1x512x512x8, .i32⟩
  | .hbm, ⟨20, _⟩ => ⟨S1x512x512x8, .i32⟩
  | .hbm, ⟨21, _⟩ => ⟨S1x512x512x8, .i1⟩
  | .hbm, ⟨22, _⟩ => ⟨S1x512x512x8, .f32⟩
  | .hbm, ⟨23, _⟩ => ⟨S1x8x512x512, .f32⟩
  | .hbm, ⟨24, _⟩ => ⟨S1x1x512x512, .f32⟩
  | .hbm, ⟨25, _⟩ => ⟨S1x8x512x512, .f32⟩
  | .hbm, ⟨26, _⟩ => ⟨S1x8x512x512, .f32⟩
  | .hbm, ⟨27, _⟩ => ⟨S_, .i32⟩
  | .hbm, ⟨28, _⟩ => ⟨S_, .f32⟩
  | .hbm, ⟨29, _⟩ => ⟨S1x8x516x516, .f32⟩
  | .hbm, ⟨30, _⟩ => ⟨S1x8x4x4, .f32⟩
  | .hbm, ⟨31, _⟩ => ⟨S1x8x1x1, .f32⟩
  | .hbm, ⟨32, _⟩ => ⟨S1x8x513x513, .f32⟩
  | .hbm, ⟨33, _⟩ => ⟨S1x8x513x513, .f32⟩
  | .hbm, ⟨34, _⟩ => ⟨S1x8x513x513, .f32⟩
  | .hbm, ⟨35, _⟩ => ⟨S_, .f32⟩
  | .hbm, ⟨36, _⟩ => ⟨S1x8x513x513, .f32⟩
  | .hbm, ⟨37, _⟩ => ⟨S1x8x513x513, .f32⟩
  | .hbm, ⟨38, _⟩ => ⟨S1x8x1x1, .f32⟩
  | .hbm, ⟨39, _⟩ => ⟨S1x8x513x513, .f32⟩
  | .hbm, ⟨40, _⟩ => ⟨S1x8x513x513, .f32⟩
  | .hbm, ⟨41, _⟩ => ⟨S1x8x513x513, .f32⟩
  | .hbm, ⟨42, _⟩ => ⟨S1x8x513x513, .f32⟩
  | .hbm, ⟨43, _⟩ => ⟨S1x8x1x1, .f32⟩
  | .hbm, ⟨44, _⟩ => ⟨S1x8x513x513, .f32⟩
  | .hbm, ⟨45, _⟩ => ⟨S1x8x513x513, .f32⟩
  | .hbm, ⟨46, _⟩ => ⟨S1x8x513x513, .f32⟩
  | .hbm, ⟨47, _⟩ => ⟨S1x8x513x513, .f32⟩
  | .hbm, ⟨48, _⟩ => ⟨S1x8x1x1, .f32⟩
  | .hbm, ⟨49, _⟩ => ⟨S1x8x513x513, .f32⟩
  | .hbm, ⟨50, _⟩ => ⟨S1x8x513x513, .f32⟩
  | .hbm, ⟨51, _⟩ => ⟨S1x8x513x513, .f32⟩
  | .hbm, ⟨52, _⟩ => ⟨S1x8x513x513, .f32⟩
  | .hbm, ⟨53, _⟩ => ⟨S1x8x1x1, .f32⟩
  | .hbm, ⟨54, _⟩ => ⟨S1x8x513x513, .f32⟩
  | .hbm, ⟨55, _⟩ => ⟨S1x8x513x513, .f32⟩
  | .hbm, ⟨56, _⟩ => ⟨S1x8x513x513, .f32⟩
  | .hbm, ⟨57, _⟩ => ⟨S1x8x513x513, .f32⟩
  | .hbm, ⟨58, _⟩ => ⟨S1x8x1x1, .f32⟩
  | .hbm, ⟨59, _⟩ => ⟨S1x8x513x513, .f32⟩
  | .hbm, ⟨60, _⟩ => ⟨S1x8x513x513, .f32⟩
  | .hbm, ⟨61, _⟩ => ⟨S1x8x513x513, .f32⟩
  | .hbm, ⟨62, _⟩ => ⟨S1x8x513x513, .f32⟩
  | .hbm, ⟨63, _⟩ => ⟨S1x8x1x1, .f32⟩
  | .hbm, ⟨64, _⟩ => ⟨S1x8x513x513, .f32⟩
  | .hbm, ⟨65, _⟩ => ⟨S1x8x513x513, .f32⟩
  | .hbm, ⟨66, _⟩ => ⟨S1x8x513x513, .f32⟩
  | .hbm, ⟨67, _⟩ => ⟨S1x8x513x513, .f32⟩
  | .hbm, ⟨68, _⟩ => ⟨S1x8x1x1, .f32⟩
  | .hbm, ⟨69, _⟩ => ⟨S1x8x513x513, .f32⟩
  | .hbm, ⟨70, _⟩ => ⟨S1x8x513x513, .f32⟩
  | .hbm, ⟨71, _⟩ => ⟨S1x8x513x513, .f32⟩
  | .hbm, ⟨72, _⟩ => ⟨S1x8x513x513, .f32⟩
  | .hbm, ⟨73, _⟩ => ⟨S1x8x1x1, .f32⟩
  | .hbm, ⟨74, _⟩ => ⟨S1x8x513x513, .f32⟩
  | .hbm, ⟨75, _⟩ => ⟨S1x8x513x513, .f32⟩
  | .hbm, ⟨76, _⟩ => ⟨S1x8x513x513, .f32⟩
  | .hbm, ⟨77, _⟩ => ⟨S1x8x513x513, .f32⟩
  | .hbm, ⟨78, _⟩ => ⟨S1x8x1x1, .f32⟩
  | .hbm, ⟨79, _⟩ => ⟨S1x8x513x513, .f32⟩
  | .hbm, ⟨80, _⟩ => ⟨S1x8x513x513, .f32⟩
  | .hbm, ⟨81, _⟩ => ⟨S1x8x513x513, .f32⟩
  | .hbm, ⟨82, _⟩ => ⟨S1x8x513x513, .f32⟩
  | .hbm, ⟨83, _⟩ => ⟨S1x8x1x1, .f32⟩
  | .hbm, ⟨84, _⟩ => ⟨S1x8x513x513, .f32⟩
  | .hbm, ⟨85, _⟩ => ⟨S1x8x513x513, .f32⟩
  | .hbm, ⟨86, _⟩ => ⟨S1x8x513x513, .f32⟩
  | .hbm, ⟨87, _⟩ => ⟨S1x8x513x513, .f32⟩
  | .hbm, ⟨88, _⟩ => ⟨S1x8x1x1, .f32⟩
  | .hbm, ⟨89, _⟩ => ⟨S1x8x513x513, .f32⟩
  | .hbm, ⟨90, _⟩ => ⟨S1x8x513x513, .f32⟩
  | .hbm, ⟨91, _⟩ => ⟨S1x8x513x513, .f32⟩
  | .hbm, ⟨92, _⟩ => ⟨S1x8x513x513, .f32⟩
  | .hbm, ⟨93, _⟩ => ⟨S1x8x1x1, .f32⟩
  | .hbm, ⟨94, _⟩ => ⟨S1x8x513x513, .f32⟩
  | .hbm, ⟨95, _⟩ => ⟨S1x8x513x513, .f32⟩
  | .hbm, ⟨96, _⟩ => ⟨S1x8x513x513, .f32⟩
  | .hbm, ⟨97, _⟩ => ⟨S1x8x513x513, .f32⟩
  | .hbm, ⟨98, _⟩ => ⟨S1x8x1x1, .f32⟩
  | .hbm, ⟨99, _⟩ => ⟨S1x8x513x513, .f32⟩
  | .hbm, ⟨100, _⟩ => ⟨S1x8x513x513, .f32⟩
  | .hbm, ⟨101, _⟩ => ⟨S1x8x513x513, .f32⟩
  | .hbm, ⟨102, _⟩ => ⟨S1x8x513x513, .f32⟩
  | .hbm, ⟨103, _⟩ => ⟨S1x8x1x1, .f32⟩
  | .hbm, ⟨104, _⟩ => ⟨S1x8x513x513, .f32⟩
  | .hbm, ⟨105, _⟩ => ⟨S1x8x513x513, .f32⟩
  | .hbm, ⟨106, _⟩ => ⟨S1x8x513x513, .f32⟩
  | .hbm, ⟨107, _⟩ => ⟨S1x8x513x513, .f32⟩
  | .hbm, ⟨108, _⟩ => ⟨S1x8x1x1, .f32⟩
  | .hbm, ⟨109, _⟩ => ⟨S1x8x513x513, .f32⟩
  | .hbm, ⟨110, _⟩ => ⟨S1x8x513x513, .f32⟩
  | .hbm, ⟨111, _⟩ => ⟨S1x8x513x513, .f32⟩
  | .hbm, ⟨112, _⟩ => ⟨S1x8x513x513, .f32⟩
  | _, _ => ⟨S1x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v8 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩

abbrev nD : Nat := 1
abbrev τ : Topo := Topo.v7x

variable {F : FTy → Type} [FloatOps F]
-- ==== Proof.Block.lean ====
/- Hand-written, untrusted: what the kernel's body leaves at a grid point, as functions of its two input blocks. At the first
   point it fills the two scratch buffers (`binsOf`, `magOf`), which every later point carries unchanged; at every point the
   output block is the printed pooling of the two buffers (`k0_pay2`). So after point `t` the output block is the pooling, at
   channel `t`, of the first point's bins and magnitudes (`outs_eq`). -/
module

public import proofs.«01_k».proof.Proof.Gen.KernelIdeal.Value
public import Idealize.ShloMosaic.Lib.VecWindow
public import Idealize.ShloMosaic.Lib.Pipeline.ValueKit.Tiles

@[expose] public section

set_option maxRecDepth 16384

noncomputable section

namespace Cert.Proof.Block

open Cert.KernelIdeal Cert.KernelIdeal.Gen Idealize.ShloMosaic Idealize.ShloMosaic.TcCoe Idealize.ShloMosaic.Tactic

variable {F : FTy → Type} [FloatOps F]

/-- Entry (k, c) of the block of filter weights. -/
def word (x0 : Vec F S10x2 .f32) (k : Fin 10) (c : Fin 2) : Elt F .f32 :=
  x0 fun a => match a with
    | ⟨0, _⟩ => k
    | ⟨1, _⟩ => c

/-- Channel `k` of the image block, under a leading unit axis. -/
def slab (x1 : Vec F S2x512x512 .bf16) (k : Fin 2) : Vec F S1x512x512 .bf16 :=
  fun j => x1 fun a => match a with
    | ⟨0, _⟩ => k
    | ⟨1, _⟩ => j 1
    | ⟨2, _⟩ => j 2

/-- The orientation bins the first point stores. -/
def binsOf (x0 : Vec F S10x2 .f32) (x1 : Vec F S2x512x512 .bf16) : IVec S512x512 32 :=
  k0_pay1 (k0_pay3 (slab x1 0)) (k0_pay4 (slab x1 1))
    (k0_pay17 (k0_pay3 (slab x1 0)) (k0_pay4 (slab x1 1)) (k0_pay6 (slab x1 0) (slab x1 1) (word x0 0 0) (word x0 0 1)) k0_pay7 (word x0 1 0) (word x0 1 1) (word x0 2 0) (word x0 2 1) (word x0 3 0) (word x0 3 1))
    (k0_pay19 (k0_pay3 (slab x1 0)) (k0_pay4 (slab x1 1)) (k0_pay6 (slab x1 0) (slab x1 1) (word x0 0 0) (word x0 0 1)) (word x0 1 0) (word x0 1 1) (word x0 2 0) (word x0 2 1) (word x0 3 0) (word x0 3 1) (word x0 4 0) (word x0 4 1))
    (k0_pay20 (k0_pay3 (slab x1 0)) (k0_pay4 (slab x1 1)) (k0_pay6 (slab x1 0) (slab x1 1) (word x0 0 0) (word x0 0 1)) (word x0 1 0) (word x0 1 1) (word x0 2 0) (word x0 2 1) (word x0 3 0) (word x0 3 1) (word x0 4 0) (word x0 4 1))
    (word x0 5 0) (word x0 5 1) (word x0 6 0) (word x0 6 1) (word x0 7 0) (word x0 7 1)

/-- The gradient magnitudes the first point stores. -/
def magOf (x0 : Vec F S10x2 .f32) (x1 : Vec F S2x512x512 .bf16) : FVec F S512x512 .f32 :=
  k0_pay5 (slab x1 0) (slab x1 1) (word x0 8 0) (word x0 8 1) (word x0 9 0) (word x0 9 1)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A scalar load at (k, c) reads that entry. -/
theorem ld_word (x0 : Vec F S10x2 .f32) (k : Fin 10) (c : Fin 2) (o : Fin 2 → Nat) (inb) (y : S1x1.Idx) (hk : o 0 = k.val) (hc : o 1 = c.val) :
    View.ld x0 (Rect.unit (s := S10x2) o S1x1.size inb) y = word x0 k c :=
  View.ld_unit_apply_of _ _ _ _ _ _ fun a => by
    match a with
    | ⟨0, _⟩ => have h : (y 0).val < 1 := (y 0).isLt; show k.val = o 0 + (y 0).val; omega
    | ⟨1, _⟩ => have h : (y 1).val < 1 := (y 1).isLt; show c.val = o 1 + (y 1).val; omega

/-- A load of one channel of the image block reads its slab. -/
theorem ld_slab (x1 : Vec F S2x512x512 .bf16) (k : Fin 2) (o : Fin 3 → Nat) (inb) (hk : o 0 = k.val) (h1 : o 1 = 0) (h2 : o 2 = 0) :
    View.ld x1 (Rect.unit (s := S2x512x512) o S1x512x512.size inb) = slab x1 k :=
  funext fun y => View.ld_unit_apply_of _ _ _ _ _ _ fun a => by
    match a with
    | ⟨0, _⟩ => have h : (y 0).val < 1 := (y 0).isLt; show k.val = o 0 + (y 0).val; omega
    | ⟨1, _⟩ => show (y 1).val = o 1 + (y 1).val; omega
    | ⟨2, _⟩ => show (y 2).val = o 2 + (y 2).val; omega

/-- The first point leaves `binsOf` in the first scratch buffer. -/
theorem bins_A (c : Dev nD) (i : grid0.Coords) (a1 : Memref sig .tc .smem S10x2 .f32) (h1 : a1.IsWhole) (a2 : Memref sig .tc .vmem S2x512x512 .bf16) (h2 : a2.IsWhole)
    (a3 : Memref sig .tc .vmem S1x1x513x513 .f32) (h3 : a3.IsWhole) (a4 : Memref sig .tc .vmem S512x512 .i32) (h4 : a4.IsWhole)
    (a5 : Memref sig .tc .vmem S512x512 .f32) (h5 : a5.IsWhole) (hc : cond0_0 i)
    (x0 : Vec F S10x2 .f32) (x1 : Vec F S2x512x512 .bf16) :
    sout0_A_0 c i a1 h1 a2 h2 a3 h3 a4 h4 a5 h5 hc x0 x1 = binsOf x0 x1 := by
  unfold sout0_A_0
  rw [View.read_writes_eq_canon _ _ _ (scover0_A_0 c i a1 h1 a2 h2 a3 h3 a4 h4 a5 h5 hc x0 x1)]
  unfold kernelRun0_A
  dsimp only
  sl_unfold_words
  rw [View.canon_cons_unit_zero (S := S512x512) hz2]
  simp only [View.readAt_eq_ld, h1.read_unread, h2.read_unread]
  unfold binsOf
  rw [← ld_slab x1 0 ![0, 0, 0] inb_S2x512x512_S1x512x512_0_0_0 rfl rfl rfl, ← ld_slab x1 1 ![1, 0, 0] inb_S2x512x512_S1x512x512_1_0_0 rfl rfl rfl]
  congr 1 <;> first | exact ld_word x0 _ _ _ _ _ rfl rfl | (congr 1 <;> first | exact ld_word x0 _ _ _ _ _ rfl rfl | (congr 1 <;> exact ld_word x0 _ _ _ _ _ rfl rfl))

/-- The first point leaves `magOf` in the second scratch buffer. -/
theorem mag_A (c : Dev nD) (i : grid0.Coords) (a1 : Memref sig .tc .smem S10x2 .f32) (h1 : a1.IsWhole) (a2 : Memref sig .tc .vmem S2x512x512 .bf16) (h2 : a2.IsWhole)
    (a3 : Memref sig .tc .vmem S1x1x513x513 .f32) (h3 : a3.IsWhole) (a4 : Memref sig .tc .vmem S512x512 .i32) (h4 : a4.IsWhole)
    (a5 : Memref sig .tc .vmem S512x512 .f32) (h5 : a5.IsWhole) (hc : cond0_0 i)
    (x0 : Vec F S10x2 .f32) (x1 : Vec F S2x512x512 .bf16) :
    sout0_A_1 c i a1 h1 a2 h2 a3 h3 a4 h4 a5 h5 hc x0 x1 = magOf x0 x1 := by
  unfold sout0_A_1
  rw [View.read_writes_eq_canon _ _ _ (scover0_A_1 c i a1 h1 a2 h2 a3 h3 a4 h4 a5 h5 hc x0 x1)]
  unfold kernelRun0_A
  dsimp only
  sl_unfold_words
  rw [View.canon_cons_unit_zero (S := S512x512) hz2]
  simp only [View.readAt_eq_ld, h1.read_unread, h2.read_unread]
  unfold magOf
  rw [← ld_slab x1 0 ![0, 0, 0] inb_S2x512x512_S1x512x512_0_0_0 rfl rfl rfl, ← ld_slab x1 1 ![1, 0, 0] inb_S2x512x512_S1x512x512_1_0_0 rfl rfl rfl]
  congr 1 <;> exact ld_word x0 _ _ _ _ _ rfl rfl

/-- The first point's output block is the pooling of the bins and magnitudes it has just stored. -/
theorem out_A (c : Dev nD) (i : grid0.Coords) (a1 : Memref sig .tc .smem S10x2 .f32) (h1 : a1.IsWhole) (a2 : Memref sig .tc .vmem S2x512x512 .bf16) (h2 : a2.IsWhole)
    (a3 : Memref sig .tc .vmem S1x1x513x513 .f32) (h3 : a3.IsWhole) (a4 : Memref sig .tc .vmem S512x512 .i32) (h4 : a4.IsWhole)
    (a5 : Memref sig .tc .vmem S512x512 .f32) (h5 : a5.IsWhole) (hc : cond0_0 i)
    (x0 : Vec F S10x2 .f32) (x1 : Vec F S2x512x512 .bf16) :
    out0_A_2 c i a1 h1 a2 h2 a3 h3 a4 h4 a5 h5 hc x0 x1 = k0_pay2 i (binsOf x0 x1) (magOf x0 x1) := by
  have eb := bins_A c i a1 h1 a2 h2 a3 h3 a4 h4 a5 h5 hc x0 x1
  have em := mag_A c i a1 h1 a2 h2 a3 h3 a4 h4 a5 h5 hc x0 x1
  unfold sout0_A_0 at eb
  unfold sout0_A_1 at em
  rw [View.read_writes_eq_canon _ _ _ (scover0_A_0 c i a1 h1 a2 h2 a3 h3 a4 h4 a5 h5 hc x0 x1)] at eb
  rw [View.read_writes_eq_canon _ _ _ (scover0_A_1 c i a1 h1 a2 h2 a3 h3 a4 h4 a5 h5 hc x0 x1)] at em
  unfold out0_A_2
  rw [View.read_writes_eq_canon _ _ _ (cover0_A_2 c i a1 h1 a2 h2 a3 h3 a4 h4 a5 h5 hc x0 x1), ← eb, ← em]
  unfold kernelRun0_A
  dsimp only
  sl_unfold_words
  rw [View.canon_cons_unit_zero (S := S1x1x513x513) hz4, View.canon_cons_unit_zero (S := S512x512) hz2,
    View.canon_cons_unit_zero (S := S512x512) hz2]
  simp only [View.readCov_unit_zero (S := S512x512) _ hz2]

/-- A later point's output block is the pooling of the bins and magnitudes it finds in the scratch buffers. -/
theorem out_B (c : Dev nD) (i : grid0.Coords) (a1 : Memref sig .tc .smem S10x2 .f32) (h1 : a1.IsWhole) (a2 : Memref sig .tc .vmem S2x512x512 .bf16) (h2 : a2.IsWhole)
    (a3 : Memref sig .tc .vmem S1x1x513x513 .f32) (h3 : a3.IsWhole) (a4 : Memref sig .tc .vmem S512x512 .i32) (h4 : a4.IsWhole)
    (a5 : Memref sig .tc .vmem S512x512 .f32) (h5 : a5.IsWhole) (hc : ¬cond0_0 i)
    (x0 : Vec F S10x2 .f32) (x1 : Vec F S2x512x512 .bf16) (s0 : Vec F S512x512 .i32) (s1 : Vec F S512x512 .f32) :
    out0_B_2 c i a1 h1 a2 h2 a3 h3 a4 h4 a5 h5 hc x0 x1 s0 s1 = k0_pay2 i s0 s1 := by
  unfold out0_B_2
  rw [View.read_writes_eq_canon _ _ _ (cover0_B_2 c i a1 h1 a2 h2 a3 h3 a4 h4 a5 h5 hc x0 x1 s0 s1)]
  unfold kernelRun0_B
  dsimp only
  rw [View.canon_cons_unit_zero (S := S1x1x513x513) hz4]
  simp only [View.readAt_eq_ld, h4.read_unread, h5.read_unread, View.ld_unit_zero (S := S512x512) hz2]

variable (m : (ℓ : Loc nD τ sig) → Buf (Elt F) ℓ)

/-- The grid's first point. -/
abbrev t0 : Fin cfg0.N := ⟨0, lt_of_lt_of_eq (by decide) (show 8 = cfg0.N from N_0.symm)⟩

/-- After point `n` the output block is the pooling at point `n` of the first point's bins and magnitudes, and the scratch
    buffers hold them. -/
theorem outs_eq (c : Dev nD) : ∀ (n : ℕ) (h : n < cfg0.N), outsAt0 m c n h
    = (k0_pay2 (grid0.coords ⟨n, h⟩) (binsOf (iblk m c 0 t0) (iblk m c 1 t0)) (magOf (iblk m c 0 t0) (iblk m c 1 t0)),
       binsOf (iblk m c 0 t0) (iblk m c 1 t0), magOf (iblk m c 0 t0) (iblk m c 1 t0))
  | 0, h => by
    refine (outsAt0_A m c ⟨0, h⟩ rfl).trans ?_
    rw [out_A, bins_A, mag_A]
  | n + 1, h => by
    have hN : cfg0.N = 8 := N_0
    have hB : ¬(⟨n + 1, h⟩ : Fin cfg0.N).val % 8 = 0 := by dsimp only; omega
    refine (outsAt0_B m c ⟨n + 1, h⟩ hB).trans ?_
    have ih := outs_eq c n (Nat.lt_of_succ_lt h)
    have ih' : outsAt0 m c ((⟨n + 1, h⟩ : Fin cfg0.N).val - 1) (Nat.lt_of_le_of_lt (Nat.sub_le _ _) h) = _ := ih
    rw [out_B, ih']
    rfl

end Cert.Proof.Block

end
-- ==== Proof.Math.lean ====
/- Hand-written, untrusted: the function both programs compute, over the extended reals and free of their arrays' layouts.
   Per pixel ten filters respond to the image's two channels; the first eight responses choose the pixel's orientation bin
   (the first that no other exceeds), the last two give its magnitude; each bin's image of magnitudes, between zeros, is
   summed over 4 × 4 windows. -/
module

public import Idealize.ShloMosaic.PureOps.Ideal

@[expose] public section

noncomputable section

namespace Cert.Proof.Math

open Idealize.ShloMosaic

/-- Filter `k`'s response to the two channel values of a pixel. -/
def resp (w : Fin 10 → Fin 2 → EReal) (a b : EReal) (k : Fin 10) : EReal := w k 0 * a + w k 1 * b

/-- One comparison of the search for the first maximum: a candidate replaces the best so far if it is greater. -/
def step (v : Fin 8 → EReal) (p : EReal × BitVec 32) (k : Fin 8) : EReal × BitVec 32 :=
  if p.1 < v k then (v k, BitVec.ofNat 32 k.val) else p

/-- The first maximum of eight values, with its index. -/
def firstMax (v : Fin 8 → EReal) : EReal × BitVec 32 :=
  ([1, 2, 3, 4, 5, 6, 7] : List (Fin 8)).foldl (step v) (v 0, 0#32)

/-- The magnitude of a pixel's gradient: the last two responses. -/
def magnitude (w : Fin 10 → Fin 2 → EReal) (a b : EReal) : EReal :=
  Ideal.sqrt (resp w a b 8 * resp w a b 8 + resp w a b 9 * resp w a b 9)

/-- The orientation bin of a pixel: the first maximum of the first eight responses. -/
def bin (w : Fin 10 → Fin 2 → EReal) (a b : EReal) : BitVec 32 :=
  (firstMax fun k => resp w a b ⟨k.val, by omega⟩).2

/-- Channel `ch` of the histogram: the magnitudes of the pixels in bin `ch`, and zero elsewhere. -/
def channel (x : Fin 2 → Fin 512 → Fin 512 → EReal) (w : Fin 10 → Fin 2 → EReal) (ch : BitVec 32) (r l : Fin 512) : EReal :=
  if bin w (x 0 r l) (x 1 r l) = ch then magnitude w (x 0 r l) (x 1 r l) else 0

/-- Entry (r, l) of an image moved by two rows and two columns, zero outside it. -/
def cell (h : Fin 512 → Fin 512 → EReal) (r l : ℕ) : EReal :=
  if hh : (2 ≤ r ∧ r < 514) ∧ 2 ≤ l ∧ l < 514 then h ⟨r - 2, by omega⟩ ⟨l - 2, by omega⟩ else 0

/-- The sum of the 4 × 4 window of the moved image at (y, x). -/
def window (h : Fin 512 → Fin 512 → EReal) (y x : ℕ) : EReal :=
  ∑ i : Fin 4, ∑ j : Fin 4, cell h (y + i.val) (x + j.val)

end Cert.Proof.Math

end
-- ==== Proof.Pixel.lean ====
/- Hand-written, untrusted: the kernel's bins and magnitudes at one pixel. -/
module

public import proofs.«01_k».proof.Proof.Block
public import proofs.«01_k».proof.Proof.Math
public import Idealize.ShloMosaic.Lib.Pointwise

@[expose] public section

set_option maxRecDepth 16384

noncomputable section

namespace Cert.Proof.Pixel

open Cert.KernelIdeal Cert.KernelIdeal.Gen Idealize.ShloMosaic Idealize.ShloMosaic.TcCoe Idealize.ShloMosaic.Pointwise Cert.Proof.Block Cert.Proof.Math

/-- The kernel's search step at a pixel: a value and its index replace the best so far if the value compares greater. -/
def upd {F : FTy → Type} [FloatOps F] (p : F .f32 × BitVec 32) (v : F .f32) (k : BitVec 32) : F .f32 × BitVec 32 :=
  (Scalar.select (FloatOps.cmpf .ogt v p.1) v p.1, Scalar.select (FloatOps.cmpf .ogt v p.1) k p.2)

/-- The kernel's response of filter `k` at a pixel, from the two channel arrays. -/
def respF {F : FTy → Type} [FloatOps F] (x0 : Vec F S10x2 .f32) (a b : FVec F S512x512 .f32) (j : S512x512.Idx) (k : Fin 10) : F .f32 :=
  FloatOps.addf (FloatOps.mulf (word x0 k 0) (a j)) (FloatOps.mulf (word x0 k 1) (b j))

/-- The kernel's bins at a pixel are seven search steps from the first response. -/
theorem binsOf_upd {F : FTy → Type} [FloatOps F] (x0 : Vec F S10x2 .f32) (x1 : Vec F S2x512x512 .bf16) (j : S512x512.Idx) :
    binsOf x0 x1 j = (let f := respF x0 (k0_pay3 (slab x1 0)) (k0_pay4 (slab x1 1)) j
      upd (upd (upd (upd (upd (upd (upd (f 0, 0#32) (f 1) 1#32) (f 2) 2#32) (f 3) 3#32) (f 4) 4#32) (f 5) 5#32) (f 6) 6#32) (f 7) 7#32).2 := by
  unfold binsOf
  unfold k0_pay1
  dsimp only
  rw [shapeCast_self]
  rfl

/-- Over the extended reals a search step is `Math.step`. -/
theorem upd_ideal (v : Fin 8 → EReal) (p : EReal × BitVec 32) (k : Fin 8) :
    upd (F := Ideal) p (v k) (BitVec.ofNat 32 k.val) = step v p k := by
  unfold upd step
  by_cases h : p.1 < v k <;> simp [Ideal.cmpf_def, Ideal.cmp, Scalar.select, h]

/-- Entry (k, c) of the weights' block. -/
theorem word_eq (x0 : Vec Ideal S10x2 .f32) (k : Fin 10) (c : Fin 2) : word x0 k c = x0 (ix2 k c) := by
  unfold word
  congr 1
  funext a
  match a with
  | ⟨0, _⟩ => rfl
  | ⟨1, _⟩ => rfl

/-- Entry (r, l) of channel `k`. -/
theorem slab_eq (x1 : Vec Ideal S2x512x512 .bf16) (k : Fin 2) (z : Fin 1) (r l : Fin 512) : slab x1 k (ix3 z r l) = x1 (ix3 k r l) := by
  unfold slab
  congr 1
  funext a
  match a with
  | ⟨0, _⟩ => rfl
  | ⟨1, _⟩ => rfl
  | ⟨2, _⟩ => rfl

/-- The first channel array reads the block's first channel. -/
theorem pay3_apply (x1 : Vec Ideal S2x512x512 .bf16) (k : Fin 2) (r l : Fin 512) : k0_pay3 (slab x1 k) (ix2 r l) = x1 (ix3 k r l) := by
  pointwise [k0_pay3]
  rw [slab_eq]

/-- The second channel array reads the block's second channel. -/
theorem pay4_apply (x1 : Vec Ideal S2x512x512 .bf16) (k : Fin 2) (r l : Fin 512) : k0_pay4 (slab x1 k) (ix2 r l) = x1 (ix3 k r l) := by
  pointwise [k0_pay4]
  rw [slab_eq]

/-- The kernel's responses are `Math.resp` of the pixel. -/
theorem respF_apply (x0 : Vec Ideal S10x2 .f32) (x1 : Vec Ideal S2x512x512 .bf16) (r l : Fin 512) (k : Fin 10) :
    respF x0 (k0_pay3 (slab x1 0)) (k0_pay4 (slab x1 1)) (ix2 r l) k
      = resp (fun k c => x0 (ix2 k c)) (x1 (ix3 0 r l)) (x1 (ix3 1 r l)) k := by
  unfold respF resp
  rw [pay3_apply, pay4_apply, word_eq, word_eq]
  rfl

/-- The bin the kernel stores at a pixel. -/
theorem binsOf_apply (x0 : Vec Ideal S10x2 .f32) (x1 : Vec Ideal S2x512x512 .bf16) (r l : Fin 512) :
    binsOf x0 x1 (ix2 r l) = bin (fun k c => x0 (ix2 k c)) (x1 (ix3 0 r l)) (x1 (ix3 1 r l)) := by
  rw [binsOf_upd]
  simp only [respF_apply]
  unfold bin firstMax
  simp only [List.foldl_cons, List.foldl_nil, ← upd_ideal]
  rfl

/-- The magnitude the kernel stores at a pixel. -/
theorem magOf_apply (x0 : Vec Ideal S10x2 .f32) (x1 : Vec Ideal S2x512x512 .bf16) (r l : Fin 512) :
    magOf x0 x1 (ix2 r l) = magnitude (fun k c => x0 (ix2 k c)) (x1 (ix3 0 r l)) (x1 (ix3 1 r l)) := by
  unfold magOf
  pointwise [k0_pay5]
  simp only [pay3_apply, pay4_apply, word_eq]
  rfl

end Cert.Proof.Pixel

end
-- ==== Proof.Pool.lean ====
/- Hand-written, untrusted: the kernel's pooling at one pixel. The body zeroes the magnitudes outside its own orientation bin,
   puts zeros around the image, and adds neighbouring columns, columns two apart, neighbouring rows and rows two apart; so the
   output at (y, x) is the sum of the sixteen entries of the padded image in the 4 × 4 window at (y, x). -/
module

public import proofs.«01_k».proof.Proof.Gen.KernelIdeal.Skeleton
public import proofs.«01_k».proof.Proof.Math
public import Idealize.ShloMosaic.Lib.Pointwise

@[expose] public section

set_option maxRecDepth 16384

noncomputable section

namespace Cert.Proof.Pool

open Cert.KernelIdeal Cert.KernelIdeal.Gen Idealize.ShloMosaic Idealize.ShloMosaic.TcCoe Idealize.ShloMosaic.Pointwise Cert.Proof.Math

/-- The image with the entries outside the bin `ch` set to zero. -/
def masked {F : FTy → Type} [FloatOps F] (ch : BitVec 32) (b : IVec S512x512 32) (g : FVec F S512x512 .f32) : FVec F S512x512 .f32 :=
  select (cmpi .eq b (broadcast S512x512 ch)) g (broadcast S512x512 (Scalar.ofBits .f32 0x00000000#32))

/-- The image with two rows and columns of zeros before it and three after it. -/
def zeroPad {F : FTy → Type} [FloatOps F] (p : FVec F S512x512 .f32) : FVec F S517x517 .f32 :=
  concatenate S517x517 1 [⟨S517x514, concatenate S517x514 1 [⟨S517x2, broadcast S517x2 (Scalar.sitofp .f32 0#32 : F .f32)⟩,
    ⟨S517x512, concatenate S517x512 0 [⟨S514x512, concatenate S514x512 0 [⟨S2x512, broadcast S2x512 (Scalar.sitofp .f32 0#32 : F .f32)⟩, ⟨S512x512, p⟩]
      concatenates_S2x512_S512x512_S514x512_d0⟩, ⟨S3x512, broadcast S3x512 (Scalar.sitofp .f32 0#32 : F .f32)⟩] concatenates_S514x512_S3x512_S517x512_d0⟩]
    concatenates_S517x2_S517x512_S517x514_d1⟩, ⟨S517x3, broadcast S517x3 (Scalar.sitofp .f32 0#32 : F .f32)⟩] concatenates_S517x514_S517x3_S517x517_d1

/-- Sums of four columns, as neighbours and then pairs two apart. -/
def colSums {F : FTy → Type} [FloatOps F] (q : FVec F S517x517 .f32) : FVec F S517x513 .f32 :=
  let a : FVec F S517x515 .f32 := addf (extractStridedSlice S517x515 ![0, 0] q slices_S517x517_o0_0_S517x515) (extractStridedSlice S517x515 ![0, 1] q slices_S517x517_o0_1_S517x515)
  addf (extractStridedSlice S517x513 ![0, 0] a slices_S517x515_o0_0_S517x513) (extractStridedSlice S517x513 ![0, 2] a slices_S517x515_o0_2_S517x513)

/-- Sums of four rows, as neighbours and then pairs two apart. -/
def rowSums {F : FTy → Type} [FloatOps F] (q : FVec F S517x513 .f32) : FVec F S513x513 .f32 :=
  let a : FVec F S515x513 .f32 := addf (extractStridedSlice S515x513 ![0, 0] q slices_S517x513_o0_0_S515x513) (extractStridedSlice S515x513 ![1, 0] q slices_S517x513_o1_0_S515x513)
  addf (extractStridedSlice S513x513 ![0, 0] a slices_S515x513_o0_0_S513x513) (extractStridedSlice S513x513 ![2, 0] a slices_S515x513_o2_0_S513x513)

/-- The printed output block is those stages, one after the other. -/
theorem pay2_eq {F : FTy → Type} [FloatOps F] (i : grid0.Coords) (b : Vec F S512x512 .i32) (g : Vec F S512x512 .f32) :
    k0_pay2 i b g = shapeCast S1x1x513x513 (rowSums (colSums (zeroPad (masked (BitVec.ofNat 32 (i 0).val) b g)))) shapeCasts_S513x513_S1x1x513x513 := rfl

/-- An entry of the masked image. -/
theorem masked_apply (ch : BitVec 32) (b : IVec S512x512 32) (g : FVec Ideal S512x512 .f32) (r l : Fin 512) :
    masked ch b g (ix2 r l) = if b (ix2 r l) = ch then g (ix2 r l) else 0 := by
  pointwise [masked]
  by_cases h : b (ix2 r l) = ch
  · simp [Scalar.select, IntOp.cmpi, h]
  · simp [Scalar.select, IntOp.cmpi, h, beq_eq_false_iff_ne.2 h]

/-- An entry of the padded image: the image's own, moved by two, or zero. -/
theorem zeroPad_apply (p : FVec Ideal S512x512 .f32) (r l : Fin 517) :
    zeroPad p (ix2 r l) = cell (fun y x => p (ix2 y x)) r.val l.val := by
  have e0 : (((0#32).toInt : ℝ) : EReal) = 0 := by simp
  pointwise [zeroPad]
  unfold cell
  simp only [e0]
  split_ifs <;> first | rfl | omega | rw [dif_pos (show (2 ≤ r.val ∧ r.val < 514) ∧ 2 ≤ l.val ∧ l.val < 514 by omega)]

/-- An entry of the column sums. -/
theorem colSums_apply (q : FVec Ideal S517x517 .f32) (r : Fin 517) (l : Fin 513) :
    colSums q (ix2 r l) = (q (ix2 r ⟨l.val, by omega⟩) + q (ix2 r ⟨l.val + 1, by omega⟩)) + (q (ix2 r ⟨l.val + 2, by omega⟩) + q (ix2 r ⟨l.val + 3, by omega⟩)) := by
  pointwise [colSums]
  have e1 : 1 + l.val = l.val + 1 := by omega
  have e2 : 2 + l.val = l.val + 2 := by omega
  have e3 : 1 + (l.val + 2) = l.val + 3 := by omega
  simp only [e1, e2, e3]

/-- An entry of the row sums. -/
theorem rowSums_apply (q : FVec Ideal S517x513 .f32) (r l : Fin 513) :
    rowSums q (ix2 r l) = (q (ix2 ⟨r.val, by omega⟩ l) + q (ix2 ⟨r.val + 1, by omega⟩ l)) + (q (ix2 ⟨r.val + 2, by omega⟩ l) + q (ix2 ⟨r.val + 3, by omega⟩ l)) := by
  pointwise [rowSums]
  have e1 : 1 + r.val = r.val + 1 := by omega
  have e2 : 2 + r.val = r.val + 2 := by omega
  have e3 : 1 + (r.val + 2) = r.val + 3 := by omega
  simp only [e1, e2, e3]

/-- An entry of the output block: the window sum of the image of its own bin's magnitudes. -/
theorem pay2_apply (i : grid0.Coords) (b : IVec S512x512 32) (g : FVec Ideal S512x512 .f32) (y x : Fin 513) :
    k0_pay2 (F := Ideal) i b g (ix4 0 0 y x)
      = window (fun r l => if b (ix2 r l) = BitVec.ofNat 32 (i 0).val then g (ix2 r l) else 0) y.val x.val := by
  rw [pay2_eq]
  pointwise []
  rw [rowSums_apply]
  simp only [colSums_apply, zeroPad_apply, masked_apply, window, Fin.sum_univ_four]
  simp only [Fin.val_zero, Fin.val_one, Fin.val_two, add_zero, add_assoc]
  rfl

end Cert.Proof.Pool

end
-- ==== Proof.KerValue.lean ====
/- Hand-written, untrusted: what the kernel's result array holds. The host casts leave the arguments' values as they are over
   the extended reals; the two input windows are the whole weight and image arrays; so the array the run leaves is, at
   (0, ch, y, x), the 4 × 4 window sum at (y, x) of channel `ch` of the histogram of the arguments (`G2_apply`). -/
module

public import proofs.«01_k».proof.Proof.Pixel
public import proofs.«01_k».proof.Proof.Pool
public import Idealize.ShloMosaic.Lib.StableHlo.ReadAt

@[expose] public section

set_option maxRecDepth 16384

noncomputable section

namespace Cert.Proof.KerValue

open Cert.KernelIdeal Cert.KernelIdeal.Gen Cert.KernelIdeal.Value Idealize.ShloMosaic Idealize.ShloMosaic.TcCoe Idealize.ShloMosaic.Pointwise Cert.Proof.Block Cert.Proof.Math

variable (m : (ℓ : Loc nD τ sig) → Buf (Elt Ideal) ℓ)

/-- The image argument of core `c`, by channel, row and column. -/
def img (c : Dev nD) (k : Fin 2) (r l : Fin 512) : EReal :=
  (m ((c : Thread nD τ).loc main_arg0) : FVec Ideal S1x2x512x512 .f32) (ix4 0 k r l)

/-- The filter weights of core `c`, by filter and channel. -/
def wts (c : Dev nD) (k : Fin 10) (ch : Fin 2) : EReal :=
  (m ((c : Thread nD τ).loc main_arg1) : FVec Ideal S10x2x1x1 .f32) (ix4 k ch 0 0)

/-- The weight array the region finds holds the argument's weights. -/
theorem weights_at (c : Dev nD) (k : Fin 10) (ch : Fin 2) : (V m c main_v2 : FVec Ideal S10x2 .f32) (ix2 k ch) = wts m c k ch := by
  unfold V wts
  after_reads_at

/-- The image array the region finds holds the argument's image. -/
theorem image_at (c : Dev nD) (k : Fin 2) (r l : Fin 512) : (V m c main_v4 : FVec Ideal S2x512x512 .bf16) (ix3 k r l) = img m c k r l := by
  unfold V img
  after_reads_at

/-- The weight window's block index is zero on both axes at every point. -/
theorem at_zero0 : ∀ t : Fin cfg0.N, win0_0.index t (0 : Fin 2) = 0 ∧ win0_0.index t (1 : Fin 2) = 0 :=
  (by decide +kernel : ∀ t : Fin grid0.N, _)

/-- The image window's block index is zero on the three axes at every point. -/
theorem at_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- The grid's point `t` has coordinate `t`. -/
theorem coord_eq : ∀ t : Fin cfg0.N, ((grid0.coords t) 0).val = t.val :=
  (by decide +kernel : ∀ t : Fin grid0.N, _)

/-- The first point's weight block holds the argument's weights. -/
theorem wblock (c : Dev nD) (k : Fin 10) (ch : Fin 2) : (iblk m c 0 t0 : Vec Ideal S10x2 .f32) (ix2 k ch) = wts m c k ch := by
  obtain ⟨e0, e1⟩ := at_zero0 t0
  rw [← weights_at]
  show V m c main_v2 (((cfg0.win 0).blk t0).view.emb (ix2 k ch)) = V m c main_v2 (ix2 k ch)
  congr 1
  funext a
  apply Fin.ext
  match a with
  | ⟨0, _⟩ => show win0_0.index t0 (0 : Fin 2) * 10 + 1 * k.val = k.val; omega
  | ⟨1, _⟩ => show win0_0.index t0 (1 : Fin 2) * 2 + 1 * ch.val = ch.val; omega

/-- The first point's image block holds the argument's image. -/
theorem xblock (c : Dev nD) (k : Fin 2) (r l : Fin 512) : (iblk m c 1 t0 : Vec Ideal S2x512x512 .bf16) (ix3 k r l) = img m c k r l := by
  obtain ⟨e0, e1, e2⟩ := at_zero1 t0
  rw [← image_at]
  show V m c main_v4 (((cfg0.win 1).blk t0).view.emb (ix3 k r l)) = V m c main_v4 (ix3 k r l)
  congr 1
  funext a
  apply Fin.ext
  match a with
  | ⟨0, _⟩ => show win0_1.index t0 (0 : Fin 3) * 2 + 1 * k.val = k.val; omega
  | ⟨1, _⟩ => show win0_1.index t0 (1 : Fin 3) * 512 + 1 * r.val = r.val; omega
  | ⟨2, _⟩ => show win0_1.index t0 (2 : Fin 3) * 512 + 1 * l.val = l.val; omega

/-- After point `n` the output block is the window sums of channel `n`. -/
theorem block_apply (c : Dev nD) (n : ℕ) (h : n < cfg0.N) (y x : Fin 513) :
    (outsAt0 m c n h).1 (ix4 0 0 y x) = window (channel (img m c) (wts m c) (BitVec.ofNat 32 n)) y.val x.val := by
  have e := coord_eq ⟨n, h⟩
  rw [outs_eq]
  dsimp only
  rw [Pool.pay2_apply, e]
  congr 1
  funext r l
  rw [Pixel.binsOf_apply, Pixel.magOf_apply]
  simp only [wblock, xblock]
  rfl

/-- The array the run leaves, at (0, ch, y, x). -/
theorem G2_apply (c : Dev nD) (ch : Fin 8) (y x : Fin 513) :
    (G2 m c : FVec Ideal S1x8x513x513 .f32) (ix4 0 ch y x) = window (channel (img m c) (wts m c) (BitVec.ofNat 32 ch.val)) y.val x.val := by
  have hN : cfg0.N = 8 := N_0
  have hp : pt2Of (ix4 0 ch y x) = ch.val := by
    show 8 * (0 / 1 - 0) + 1 * (ch.val / 1 - 0) + 1 * (y.val / 513 - 0) + 1 * (x.val / 513 - 0) = ch.val
    have hy := y.isLt; have hx := x.isLt
    rw [Nat.div_eq_of_lt hy, Nat.div_eq_of_lt hx]; omega
  have hl : loc2Of (ix4 0 ch y x) = (ix4 0 0 y x : S1x1x513x513.Idx) := by
    funext a
    apply Fin.ext
    match a with
    | ⟨0, _⟩ => rfl
    | ⟨1, _⟩ => show ch.val % 1 = 0; omega
    | ⟨2, _⟩ => exact Nat.mod_eq_of_lt y.isLt
    | ⟨3, _⟩ => exact Nat.mod_eq_of_lt x.isLt
  have hlt : pt2Of (ix4 0 ch y x) < cfg0.N := by rw [hp, hN]; exact ch.isLt
  show (if h : pt2Of (ix4 0 ch y x) < cfg0.N then _ else _) = _
  rw [dif_pos hlt, ← outsAt0_sweep m c _ hlt, hl, block_apply, hp]

end Cert.Proof.KerValue

end
-- ==== Proof.RefRun.lean ====
/- Hand-written, untrusted: the run of the reference program. `@main` is a straight line of array operations, the called
   functions' (arg-max, one-hot, pad) standing in their calls' places; so the result buffer ends at those operations' composed
   function of the three arguments (`result`), named stage by stage, and the arguments are unchanged (`run`). The value
   modules read `result` at an index. -/
module

public import proofs.«01_k».proof.Proof.Gen.ReferenceIdeal
public import Idealize.ShloMosaic.Lib.StableHlo.Run

@[expose] public section

set_option maxRecDepth 16384

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages of the reference, as functions of arrays -/

/-- The ten filter responses, channel axis second: the contraction of the image's two channels with the filter matrix. -/
def feats (x : FVec F S1x2x512x512 .f32) (w : FVec F S10x2x1x1 .f32) : FVec F S1x10x512x512 .f32 :=
  transpose S1x10x512x512 [0, 3, 1, 2]
    (Host.dotGeneral dot_S1x2x512x512_S10x2_S1x512x512x10_1_1_023_0_n_n none x (shapeCast S10x2 w shapeCasts_S10x2x1x1_S10x2))
    transposes_S1x512x512x10_S1x10x512x512_0_3_1_2

/-- The gradients: the last two responses. -/
def grads (f : FVec F S1x10x512x512 .f32) : FVec F S1x2x512x512 .f32 :=
  extractStridedSlice S1x2x512x512 ![0, 8, 0, 0] f slices_S1x10x512x512_S1x2x512x512_0_8_0_0

/-- The gradient magnitude: the square root of the sum of the two squares. -/
def mag (g : FVec F S1x2x512x512 .f32) : FVec F S1x512x512 .f32 :=
  Host.sqrt (Host.reduceAdd (mulf g g) (constant S_ .f32 0x00000000#32) reducesTo_S1x2x512x512_S1x512x512_d1 h_S_)

/-- The cosines: the first eight responses. -/
def cosines (f : FVec F S1x10x512x512 .f32) : FVec F S1x8x512x512 .f32 :=
  extractStridedSlice S1x8x512x512 ![0, 0, 0, 0] f slices_S1x10x512x512_S1x8x512x512_0_0_0_0

/-- The orientation bin of each pixel: the arg-max of the eight cosines. -/
def bins (k : FVec F S1x8x512x512 .f32) : IVec S1x512x512 32 := fun j =>
  (Host.argReduce reducer_argmax_f32_i32 k (iotaInDim S1x8x512x512 32 1) (constant S_ .f32 0xFF800000#32)
    (constantI S_ 32 0#32) reducesTo_S1x8x512x512_S1x512x512_d1 h_S_ j).2

/-- The one-hot encoding of the bins, channel axis second. -/
def hot (b : IVec S1x512x512 32) : FVec F S1x8x512x512 .f32 :=
  transpose S1x8x512x512 [0, 3, 1, 2]
    (uitofp .f32 (cmpi .eq
      (broadcastInDim S1x512x512x8 ![0, 1, 2, 3] bcast_S1x512x512x1_S1x512x512x8_0_1_2_3
        (broadcastInDim S1x512x512x1 ![0, 1, 2] bcast_S1x512x512_S1x512x512x1_0_1_2 b))
      (broadcastInDim S1x512x512x8 ![0, 1, 2, 3] bcast_S1x1x1x8_S1x512x512x8_0_1_2_3 (iotaInDim S1x1x1x8 32 3))))
    transposes_S1x512x512x8_S1x8x512x512_0_3_1_2

/-- The histogram: the magnitude times the one-hot encoding, over every channel. -/
def hist (g : FVec F S1x512x512 .f32) (h : FVec F S1x8x512x512 .f32) : FVec F S1x8x512x512 .f32 :=
  mulf (broadcastInDim S1x8x512x512 ![0, 1, 2, 3] bcast_S1x1x512x512_S1x8x512x512_0_1_2_3
    (broadcastInDim S1x1x512x512 ![0, 2, 3] bcast_S1x512x512_S1x1x512x512_0_2_3 g)) h

/-- The histogram between two rows and two columns of zeros on either side. -/
def padded (h : FVec F S1x8x512x512 .f32) : FVec F S1x8x516x516 .f32 :=
  pad S1x8x516x516 ![0, 0, 2, 2] ![0, 0, 2, 2] ![0, 0, 0, 0] h (sitofp .f32 (constantI S_ 32 0#32))
    pads_S1x8x512x512_S1x8x516x516_000_000_220_220 h_S_

/-- The accumulation weights, channel axis second. -/
def taps (a : FVec F S8x1x4x4 .f32) : FVec F S1x8x4x4 .f32 :=
  transpose S1x8x4x4 [1, 0, 2, 3] a transposes_S8x1x4x4_S1x8x4x4_1_0_2_3

/-- The sixteen weighted shifts of the padded histogram, added up one after the other from zero. -/
def tapSum (p : FVec F S1x8x516x516 .f32) (w : FVec F S1x8x4x4 .f32) : FVec F S1x8x513x513 .f32 :=
  (addf (addf (addf (addf (addf (addf (addf (addf (addf (addf (addf (addf (addf (addf (addf (addf (broadcastInDim S1x8x513x513 ![] bcast_S_S1x8x513x513 (constant S_ .f32 0x00000000#32))
    (mulf (broadcastInDim S1x8x513x513 ![0, 1, 2, 3] bcast_S1x8x1x1_S1x8x513x513_0_1_2_3 (extractStridedSlice S1x8x1x1 ![0, 0, 0, 0] w slices_S1x8x4x4_S1x8x1x1_0_0_0_0)) (extractStridedSlice S1x8x513x513 ![0, 0, 0, 0] p slices_S1x8x516x516_S1x8x513x513_0_0_0_0)))
    (mulf (broadcastInDim S1x8x513x513 ![0, 1, 2, 3] bcast_S1x8x1x1_S1x8x513x513_0_1_2_3 (extractStridedSlice S1x8x1x1 ![0, 0, 0, 1] w slices_S1x8x4x4_S1x8x1x1_0_0_0_1)) (extractStridedSlice S1x8x513x513 ![0, 0, 0, 1] p slices_S1x8x516x516_S1x8x513x513_0_0_0_1)))
    (mulf (broadcastInDim S1x8x513x513 ![0, 1, 2, 3] bcast_S1x8x1x1_S1x8x513x513_0_1_2_3 (extractStridedSlice S1x8x1x1 ![0, 0, 0, 2] w slices_S1x8x4x4_S1x8x1x1_0_0_0_2)) (extractStridedSlice S1x8x513x513 ![0, 0, 0, 2] p slices_S1x8x516x516_S1x8x513x513_0_0_0_2)))
    (mulf (broadcastInDim S1x8x513x513 ![0, 1, 2, 3] bcast_S1x8x1x1_S1x8x513x513_0_1_2_3 (extractStridedSlice S1x8x1x1 ![0, 0, 0, 3] w slices_S1x8x4x4_S1x8x1x1_0_0_0_3)) (extractStridedSlice S1x8x513x513 ![0, 0, 0, 3] p slices_S1x8x516x516_S1x8x513x513_0_0_0_3)))
    (mulf (broadcastInDim S1x8x513x513 ![0, 1, 2, 3] bcast_S1x8x1x1_S1x8x513x513_0_1_2_3 (extractStridedSlice S1x8x1x1 ![0, 0, 1, 0] w slices_S1x8x4x4_S1x8x1x1_0_0_1_0)) (extractStridedSlice S1x8x513x513 ![0, 0, 1, 0] p slices_S1x8x516x516_S1x8x513x513_0_0_1_0)))
    (mulf (broadcastInDim S1x8x513x513 ![0, 1, 2, 3] bcast_S1x8x1x1_S1x8x513x513_0_1_2_3 (extractStridedSlice S1x8x1x1 ![0, 0, 1, 1] w slices_S1x8x4x4_S1x8x1x1_0_0_1_1)) (extractStridedSlice S1x8x513x513 ![0, 0, 1, 1] p slices_S1x8x516x516_S1x8x513x513_0_0_1_1)))
    (mulf (broadcastInDim S1x8x513x513 ![0, 1, 2, 3] bcast_S1x8x1x1_S1x8x513x513_0_1_2_3 (extractStridedSlice S1x8x1x1 ![0, 0, 1, 2] w slices_S1x8x4x4_S1x8x1x1_0_0_1_2)) (extractStridedSlice S1x8x513x513 ![0, 0, 1, 2] p slices_S1x8x516x516_S1x8x513x513_0_0_1_2)))
    (mulf (broadcastInDim S1x8x513x513 ![0, 1, 2, 3] bcast_S1x8x1x1_S1x8x513x513_0_1_2_3 (extractStridedSlice S1x8x1x1 ![0, 0, 1, 3] w slices_S1x8x4x4_S1x8x1x1_0_0_1_3)) (extractStridedSlice S1x8x513x513 ![0, 0, 1, 3] p slices_S1x8x516x516_S1x8x513x513_0_0_1_3)))
    (mulf (broadcastInDim S1x8x513x513 ![0, 1, 2, 3] bcast_S1x8x1x1_S1x8x513x513_0_1_2_3 (extractStridedSlice S1x8x1x1 ![0, 0, 2, 0] w slices_S1x8x4x4_S1x8x1x1_0_0_2_0)) (extractStridedSlice S1x8x513x513 ![0, 0, 2, 0] p slices_S1x8x516x516_S1x8x513x513_0_0_2_0)))
    (mulf (broadcastInDim S1x8x513x513 ![0, 1, 2, 3] bcast_S1x8x1x1_S1x8x513x513_0_1_2_3 (extractStridedSlice S1x8x1x1 ![0, 0, 2, 1] w slices_S1x8x4x4_S1x8x1x1_0_0_2_1)) (extractStridedSlice S1x8x513x513 ![0, 0, 2, 1] p slices_S1x8x516x516_S1x8x513x513_0_0_2_1)))
    (mulf (broadcastInDim S1x8x513x513 ![0, 1, 2, 3] bcast_S1x8x1x1_S1x8x513x513_0_1_2_3 (extractStridedSlice S1x8x1x1 ![0, 0, 2, 2] w slices_S1x8x4x4_S1x8x1x1_0_0_2_2)) (extractStridedSlice S1x8x513x513 ![0, 0, 2, 2] p slices_S1x8x516x516_S1x8x513x513_0_0_2_2)))
    (mulf (broadcastInDim S1x8x513x513 ![0, 1, 2, 3] bcast_S1x8x1x1_S1x8x513x513_0_1_2_3 (extractStridedSlice S1x8x1x1 ![0, 0, 2, 3] w slices_S1x8x4x4_S1x8x1x1_0_0_2_3)) (extractStridedSlice S1x8x513x513 ![0, 0, 2, 3] p slices_S1x8x516x516_S1x8x513x513_0_0_2_3)))
    (mulf (broadcastInDim S1x8x513x513 ![0, 1, 2, 3] bcast_S1x8x1x1_S1x8x513x513_0_1_2_3 (extractStridedSlice S1x8x1x1 ![0, 0, 3, 0] w slices_S1x8x4x4_S1x8x1x1_0_0_3_0)) (extractStridedSlice S1x8x513x513 ![0, 0, 3, 0] p slices_S1x8x516x516_S1x8x513x513_0_0_3_0)))
    (mulf (broadcastInDim S1x8x513x513 ![0, 1, 2, 3] bcast_S1x8x1x1_S1x8x513x513_0_1_2_3 (extractStridedSlice S1x8x1x1 ![0, 0, 3, 1] w slices_S1x8x4x4_S1x8x1x1_0_0_3_1)) (extractStridedSlice S1x8x513x513 ![0, 0, 3, 1] p slices_S1x8x516x516_S1x8x513x513_0_0_3_1)))
    (mulf (broadcastInDim S1x8x513x513 ![0, 1, 2, 3] bcast_S1x8x1x1_S1x8x513x513_0_1_2_3 (extractStridedSlice S1x8x1x1 ![0, 0, 3, 2] w slices_S1x8x4x4_S1x8x1x1_0_0_3_2)) (extractStridedSlice S1x8x513x513 ![0, 0, 3, 2] p slices_S1x8x516x516_S1x8x513x513_0_0_3_2)))
    (mulf (broadcastInDim S1x8x513x513 ![0, 1, 2, 3] bcast_S1x8x1x1_S1x8x513x513_0_1_2_3 (extractStridedSlice S1x8x1x1 ![0, 0, 3, 3] w slices_S1x8x4x4_S1x8x1x1_0_0_3_3)) (extractStridedSlice S1x8x513x513 ![0, 0, 3, 3] p slices_S1x8x516x516_S1x8x513x513_0_0_3_3)))

/-- The reference's result as one function of its arguments. -/
def result (x : FVec F S1x2x512x512 .f32) (w : FVec F S10x2x1x1 .f32) (a : FVec F S8x1x4x4 .f32) : FVec F S1x8x513x513 .f32 :=
  tapSum (padded (hist (mag (grads (feats x w))) (hot (bins (cosines (feats x w)))))) (taps a)

/-! ## The program's operations -/

/-- The operations up to the padded histogram `main_v14` and the taps `main_v15`, in order. -/
abbrev opsA : List (HloOp τ sig (Elt F)) :=
  [ reshape main_arg1 main_v0 (rfl : (.f32 : EltTy) = .f32) shapeCasts_S10x2x1x1_S10x2,
    binary main_arg0 main_v0 main_v1 ((fun l r => Host.dotGeneral dot_S1x2x512x512_S10x2_S1x512x512x10_1_1_023_0_n_n none l r) : (⟨S1x2x512x512, .f32⟩ : BufTy).Contents (Elt F) → (⟨S10x2, .f32⟩ : BufTy).Contents (Elt F) → (⟨S1x512x512x10, .f32⟩ : BufTy).Contents (Elt F)),
    unary main_v1 main_v2 ((transpose S1x10x512x512 [0, 3, 1, 2] · transposes_S1x512x512x10_S1x10x512x512_0_3_1_2) : (⟨S1x512x512x10, .f32⟩ : BufTy).Contents (Elt F) → (⟨S1x10x512x512, .f32⟩ : BufTy).Contents (Elt F)),
    unary main_v2 main_v3 ((extractStridedSlice S1x8x512x512 ![0, 0, 0, 0] · slices_S1x10x512x512_S1x8x512x512_0_0_0_0) : (⟨S1x10x512x512, .f32⟩ : BufTy).Contents (Elt F) → (⟨S1x8x512x512, .f32⟩ : BufTy).Contents (Elt F)),
    unary main_v2 main_v4 ((extractStridedSlice S1x2x512x512 ![0, 8, 0, 0] · slices_S1x10x512x512_S1x2x512x512_0_8_0_0) : (⟨S1x10x512x512, .f32⟩ : BufTy).Contents (Elt F) → (⟨S1x2x512x512, .f32⟩ : BufTy).Contents (Elt F)),
    binary main_v4 main_v4 main_v5 (mulf : (⟨S1x2x512x512, .f32⟩ : BufTy).Contents (Elt F) → (⟨S1x2x512x512, .f32⟩ : BufTy).Contents (Elt F) → (⟨S1x2x512x512, .f32⟩ : BufTy).Contents (Elt F)),
    nullary main_cst (constant S_ .f32 0x00000000#32),
    binary main_v5 main_cst main_v6 ((fun x v => Host.reduceAdd x v reducesTo_S1x2x512x512_S1x512x512_d1 h_S_) : (⟨S1x2x512x512, .f32⟩ : BufTy).Contents (Elt F) → (⟨S_, .f32⟩ : BufTy).Contents (Elt F) → (⟨S1x512x512, .f32⟩ : BufTy).Contents (Elt F)),
    unary main_v6 main_v7 (Host.sqrt : (⟨S1x512x512, .f32⟩ : BufTy).Contents (Elt F) → (⟨S1x512x512, .f32⟩ : BufTy).Contents (Elt F)),
    TRef.nullary (TRef.of (T := ⟨S1x8x512x512, .i32⟩) main_call0_v0) (iotaInDim S1x8x512x512 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S1x8x512x512, .f32⟩) main_v3) (TRef.of (T := ⟨S1x8x512x512, .i32⟩) main_call0_v0) (TRef.of (T := ⟨S_, .f32⟩) main_call0_cst) (TRef.of (T := ⟨S_, .i32⟩) main_call0_c) (TRef.of (T := ⟨S1x512x512, .f32⟩) main_call0_v1_0) (fun x y u v j => (Host.argReduce reducer_argmax_f32_i32 x y u v reducesTo_S1x8x512x512_S1x512x512_d1 h_S_ j).1),
    TRef.quaternary (TRef.of (T := ⟨S1x8x512x512, .f32⟩) main_v3) (TRef.of (T := ⟨S1x8x512x512, .i32⟩) main_call0_v0) (TRef.of (T := ⟨S_, .f32⟩) main_call0_cst) (TRef.of (T := ⟨S_, .i32⟩) main_call0_c) (TRef.of (T := ⟨S1x512x512, .i32⟩) main_v8) (fun x y u v j => (Host.argReduce reducer_argmax_f32_i32 x y u v reducesTo_S1x8x512x512_S1x512x512_d1 h_S_ j).2),
    TRef.unary (TRef.of (T := ⟨S1x512x512, .i32⟩) main_v8) (TRef.of (T := ⟨S1x512x512x1, .i32⟩) main_call1_v0) (broadcastInDim S1x512x512x1 ![0, 1, 2] bcast_S1x512x512_S1x512x512x1_0_1_2),
    TRef.nullary (TRef.of (T := ⟨S1x1x1x8, .i32⟩) main_call1_v1) (iotaInDim S1x1x1x8 32 3),
    TRef.unary (TRef.of (T := ⟨S1x512x512x1, .i32⟩) main_call1_v0) (TRef.of (T := ⟨S1x512x512x8, .i32⟩) main_call1_v2) (broadcastInDim S1x512x512x8 ![0, 1, 2, 3] bcast_S1x512x512x1_S1x512x512x8_0_1_2_3),
    TRef.unary (TRef.of (T := ⟨S1x1x1x8, .i32⟩) main_call1_v1) (TRef.of (T := ⟨S1x512x512x8, .i32⟩) main_call1_v3) (broadcastInDim S1x512x512x8 ![0, 1, 2, 3] bcast_S1x1x1x8_S1x512x512x8_0_1_2_3),
    TRef.binary (TRef.of (T := ⟨S1x512x512x8, .i32⟩) main_call1_v2) (TRef.of (T := ⟨S1x512x512x8, .i32⟩) main_call1_v3) (TRef.of (T := ⟨S1x512x512x8, .i1⟩) main_call1_v4) (cmpi .eq),
    TRef.unary (TRef.of (T := ⟨S1x512x512x8, .i1⟩) main_call1_v4) (TRef.of (T := ⟨S1x512x512x8, .f32⟩) main_v9) (uitofp .f32),
    unary main_v9 main_v10 ((transpose S1x8x512x512 [0, 3, 1, 2] · transposes_S1x512x512x8_S1x8x512x512_0_3_1_2) : (⟨S1x512x512x8, .f32⟩ : BufTy).Contents (Elt F) → (⟨S1x8x512x512, .f32⟩ : BufTy).Contents (Elt F)),
    unary main_v7 main_v11 (broadcastInDim S1x1x512x512 ![0, 2, 3] bcast_S1x512x512_S1x1x512x512_0_2_3 : (⟨S1x512x512, .f32⟩ : BufTy).Contents (Elt F) → (⟨S1x1x512x512, .f32⟩ : BufTy).Contents (Elt F)),
    unary main_v11 main_v12 (broadcastInDim S1x8x512x512 ![0, 1, 2, 3] bcast_S1x1x512x512_S1x8x512x512_0_1_2_3 : (⟨S1x1x512x512, .f32⟩ : BufTy).Contents (Elt F) → (⟨S1x8x512x512, .f32⟩ : BufTy).Contents (Elt F)),
    binary main_v12 main_v10 main_v13 (mulf : (⟨S1x8x512x512, .f32⟩ : BufTy).Contents (Elt F) → (⟨S1x8x512x512, .f32⟩ : BufTy).Contents (Elt F) → (⟨S1x8x512x512, .f32⟩ : BufTy).Contents (Elt F)),
    nullary main_c (constantI S_ 32 0#32),
    TRef.unary (TRef.of (T := ⟨S_, .i32⟩) main_c) (TRef.of (T := ⟨S_, .f32⟩) main_call2_v0) (sitofp .f32),
    TRef.binary (TRef.of (T := ⟨S1x8x512x512, .f32⟩) main_v13) (TRef.of (T := ⟨S_, .f32⟩) main_call2_v0) (TRef.of (T := ⟨S1x8x516x516, .f32⟩) main_v14) (fun x v => pad S1x8x516x516 ![0, 0, 2, 2] ![0, 0, 2, 2] ![0, 0, 0, 0] x v pads_S1x8x512x512_S1x8x516x516_000_000_220_220 h_S_),
    unary main_arg2 main_v15 ((transpose S1x8x4x4 [1, 0, 2, 3] · transposes_S8x1x4x4_S1x8x4x4_1_0_2_3) : (⟨S8x1x4x4, .f32⟩ : BufTy).Contents (Elt F) → (⟨S1x8x4x4, .f32⟩ : BufTy).Contents (Elt F)) ]

/-- The sixteen taps: slice, broadcast, multiply and add, in order. -/
abbrev opsB : List (HloOp τ sig (Elt F)) :=
  [ unary main_v15 main_v16 ((extractStridedSlice S1x8x1x1 ![0, 0, 0, 0] · slices_S1x8x4x4_S1x8x1x1_0_0_0_0) : (⟨S1x8x4x4, .f32⟩ : BufTy).Contents (Elt F) → (⟨S1x8x1x1, .f32⟩ : BufTy).Contents (Elt F)),
    unary main_v14 main_v17 ((extractStridedSlice S1x8x513x513 ![0, 0, 0, 0] · slices_S1x8x516x516_S1x8x513x513_0_0_0_0) : (⟨S1x8x516x516, .f32⟩ : BufTy).Contents (Elt F) → (⟨S1x8x513x513, .f32⟩ : BufTy).Contents (Elt F)),
    unary main_v16 main_v18 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v18 main_v17 main_v19 (mulf : (⟨S1x8x513x513, .f32⟩ : BufTy).Contents (Elt F) → (⟨S1x8x513x513, .f32⟩ : BufTy).Contents (Elt F) → (⟨S1x8x513x513, .f32⟩ : BufTy).Contents (Elt F)),
    nullary main_cst_0 (constant S_ .f32 0x00000000#32),
    unary main_cst_0 main_v20 (broadcastInDim S1x8x513x513 ![] bcast_S_S1x8x513x513 : (⟨S_, .f32⟩ : BufTy).Contents (Elt F) → (⟨S1x8x513x513, .f32⟩ : BufTy).Contents (Elt F)),
    binary main_v20 main_v19 main_v21 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v22 ((extractStridedSlice S1x8x1x1 ![0, 0, 0, 1] · slices_S1x8x4x4_S1x8x1x1_0_0_0_1) : (⟨S1x8x4x4, .f32⟩ : BufTy).Contents (Elt F) → (⟨S1x8x1x1, .f32⟩ : BufTy).Contents (Elt F)),
    unary main_v14 main_v23 ((extractStridedSlice S1x8x513x513 ![0, 0, 0, 1] · slices_S1x8x516x516_S1x8x513x513_0_0_0_1) : (⟨S1x8x516x516, .f32⟩ : BufTy).Contents (Elt F) → (⟨S1x8x513x513, .f32⟩ : BufTy).Contents (Elt F)),
    unary main_v22 main_v24 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v24 main_v23 main_v25 (mulf : (⟨S1x8x513x513, .f32⟩ : BufTy).Contents (Elt F) → (⟨S1x8x513x513, .f32⟩ : BufTy).Contents (Elt F) → (⟨S1x8x513x513, .f32⟩ : BufTy).Contents (Elt F)),
    binary main_v21 main_v25 main_v26 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v27 ((extractStridedSlice S1x8x1x1 ![0, 0, 0, 2] · slices_S1x8x4x4_S1x8x1x1_0_0_0_2) : (⟨S1x8x4x4, .f32⟩ : BufTy).Contents (Elt F) → (⟨S1x8x1x1, .f32⟩ : BufTy).Contents (Elt F)),
    unary main_v14 main_v28 ((extractStridedSlice S1x8x513x513 ![0, 0, 0, 2] · slices_S1x8x516x516_S1x8x513x513_0_0_0_2) : (⟨S1x8x516x516, .f32⟩ : BufTy).Contents (Elt F) → (⟨S1x8x513x513, .f32⟩ : BufTy).Contents (Elt F)),
    unary main_v27 main_v29 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v29 main_v28 main_v30 (mulf : (⟨S1x8x513x513, .f32⟩ : BufTy).Contents (Elt F) → (⟨S1x8x513x513, .f32⟩ : BufTy).Contents (Elt F) → (⟨S1x8x513x513, .f32⟩ : BufTy).Contents (Elt F)),
    binary main_v26 main_v30 main_v31 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v32 ((extractStridedSlice S1x8x1x1 ![0, 0, 0, 3] · slices_S1x8x4x4_S1x8x1x1_0_0_0_3) : (⟨S1x8x4x4, .f32⟩ : BufTy).Contents (Elt F) → (⟨S1x8x1x1, .f32⟩ : BufTy).Contents (Elt F)),
    unary main_v14 main_v33 ((extractStridedSlice S1x8x513x513 ![0, 0, 0, 3] · slices_S1x8x516x516_S1x8x513x513_0_0_0_3) : (⟨S1x8x516x516, .f32⟩ : BufTy).Contents (Elt F) → (⟨S1x8x513x513, .f32⟩ : BufTy).Contents (Elt F)),
    unary main_v32 main_v34 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v34 main_v33 main_v35 (mulf : (⟨S1x8x513x513, .f32⟩ : BufTy).Contents (Elt F) → (⟨S1x8x513x513, .f32⟩ : BufTy).Contents (Elt F) → (⟨S1x8x513x513, .f32⟩ : BufTy).Contents (Elt F)),
    binary main_v31 main_v35 main_v36 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v37 ((extractStridedSlice S1x8x1x1 ![0, 0, 1, 0] · slices_S1x8x4x4_S1x8x1x1_0_0_1_0) : (⟨S1x8x4x4, .f32⟩ : BufTy).Contents (Elt F) → (⟨S1x8x1x1, .f32⟩ : BufTy).Contents (Elt F)),
    unary main_v14 main_v38 ((extractStridedSlice S1x8x513x513 ![0, 0, 1, 0] · slices_S1x8x516x516_S1x8x513x513_0_0_1_0) : (⟨S1x8x516x516, .f32⟩ : BufTy).Contents (Elt F) → (⟨S1x8x513x513, .f32⟩ : BufTy).Contents (Elt F)),
    unary main_v37 main_v39 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v39 main_v38 main_v40 (mulf : (⟨S1x8x513x513, .f32⟩ : BufTy).Contents (Elt F) → (⟨S1x8x513x513, .f32⟩ : BufTy).Contents (Elt F) → (⟨S1x8x513x513, .f32⟩ : BufTy).Contents (Elt F)),
    binary main_v36 main_v40 main_v41 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v42 ((extractStridedSlice S1x8x1x1 ![0, 0, 1, 1] · slices_S1x8x4x4_S1x8x1x1_0_0_1_1) : (⟨S1x8x4x4, .f32⟩ : BufTy).Contents (Elt F) → (⟨S1x8x1x1, .f32⟩ : BufTy).Contents (Elt F)),
    unary main_v14 main_v43 ((extractStridedSlice S1x8x513x513 ![0, 0, 1, 1] · slices_S1x8x516x516_S1x8x513x513_0_0_1_1) : (⟨S1x8x516x516, .f32⟩ : BufTy).Contents (Elt F) → (⟨S1x8x513x513, .f32⟩ : BufTy).Contents (Elt F)),
    unary main_v42 main_v44 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v44 main_v43 main_v45 (mulf : (⟨S1x8x513x513, .f32⟩ : BufTy).Contents (Elt F) → (⟨S1x8x513x513, .f32⟩ : BufTy).Contents (Elt F) → (⟨S1x8x513x513, .f32⟩ : BufTy).Contents (Elt F)),
    binary main_v41 main_v45 main_v46 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v47 ((extractStridedSlice S1x8x1x1 ![0, 0, 1, 2] · slices_S1x8x4x4_S1x8x1x1_0_0_1_2) : (⟨S1x8x4x4, .f32⟩ : BufTy).Contents (Elt F) → (⟨S1x8x1x1, .f32⟩ : BufTy).Contents (Elt F)),
    unary main_v14 main_v48 ((extractStridedSlice S1x8x513x513 ![0, 0, 1, 2] · slices_S1x8x516x516_S1x8x513x513_0_0_1_2) : (⟨S1x8x516x516, .f32⟩ : BufTy).Contents (Elt F) → (⟨S1x8x513x513, .f32⟩ : BufTy).Contents (Elt F)),
    unary main_v47 main_v49 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v49 main_v48 main_v50 (mulf : (⟨S1x8x513x513, .f32⟩ : BufTy).Contents (Elt F) → (⟨S1x8x513x513, .f32⟩ : BufTy).Contents (Elt F) → (⟨S1x8x513x513, .f32⟩ : BufTy).Contents (Elt F)),
    binary main_v46 main_v50 main_v51 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v52 ((extractStridedSlice S1x8x1x1 ![0, 0, 1, 3] · slices_S1x8x4x4_S1x8x1x1_0_0_1_3) : (⟨S1x8x4x4, .f32⟩ : BufTy).Contents (Elt F) → (⟨S1x8x1x1, .f32⟩ : BufTy).Contents (Elt F)),
    unary main_v14 main_v53 ((extractStridedSlice S1x8x513x513 ![0, 0, 1, 3] · slices_S1x8x516x516_S1x8x513x513_0_0_1_3) : (⟨S1x8x516x516, .f32⟩ : BufTy).Contents (Elt F) → (⟨S1x8x513x513, .f32⟩ : BufTy).Contents (Elt F)),
    unary main_v52 main_v54 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v54 main_v53 main_v55 (mulf : (⟨S1x8x513x513, .f32⟩ : BufTy).Contents (Elt F) → (⟨S1x8x513x513, .f32⟩ : BufTy).Contents (Elt F) → (⟨S1x8x513x513, .f32⟩ : BufTy).Contents (Elt F)),
    binary main_v51 main_v55 main_v56 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v57 ((extractStridedSlice S1x8x1x1 ![0, 0, 2, 0] · slices_S1x8x4x4_S1x8x1x1_0_0_2_0) : (⟨S1x8x4x4, .f32⟩ : BufTy).Contents (Elt F) → (⟨S1x8x1x1, .f32⟩ : BufTy).Contents (Elt F)),
    unary main_v14 main_v58 ((extractStridedSlice S1x8x513x513 ![0, 0, 2, 0] · slices_S1x8x516x516_S1x8x513x513_0_0_2_0) : (⟨S1x8x516x516, .f32⟩ : BufTy).Contents (Elt F) → (⟨S1x8x513x513, .f32⟩ : BufTy).Contents (Elt F)),
    unary main_v57 main_v59 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v59 main_v58 main_v60 (mulf : (⟨S1x8x513x513, .f32⟩ : BufTy).Contents (Elt F) → (⟨S1x8x513x513, .f32⟩ : BufTy).Contents (Elt F) → (⟨S1x8x513x513, .f32⟩ : BufTy).Contents (Elt F)),
    binary main_v56 main_v60 main_v61 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v62 ((extractStridedSlice S1x8x1x1 ![0, 0, 2, 1] · slices_S1x8x4x4_S1x8x1x1_0_0_2_1) : (⟨S1x8x4x4, .f32⟩ : BufTy).Contents (Elt F) → (⟨S1x8x1x1, .f32⟩ : BufTy).Contents (Elt F)),
    unary main_v14 main_v63 ((extractStridedSlice S1x8x513x513 ![0, 0, 2, 1] · slices_S1x8x516x516_S1x8x513x513_0_0_2_1) : (⟨S1x8x516x516, .f32⟩ : BufTy).Contents (Elt F) → (⟨S1x8x513x513, .f32⟩ : BufTy).Contents (Elt F)),
    unary main_v62 main_v64 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v64 main_v63 main_v65 (mulf : (⟨S1x8x513x513, .f32⟩ : BufTy).Contents (Elt F) → (⟨S1x8x513x513, .f32⟩ : BufTy).Contents (Elt F) → (⟨S1x8x513x513, .f32⟩ : BufTy).Contents (Elt F)),
    binary main_v61 main_v65 main_v66 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v67 ((extractStridedSlice S1x8x1x1 ![0, 0, 2, 2] · slices_S1x8x4x4_S1x8x1x1_0_0_2_2) : (⟨S1x8x4x4, .f32⟩ : BufTy).Contents (Elt F) → (⟨S1x8x1x1, .f32⟩ : BufTy).Contents (Elt F)),
    unary main_v14 main_v68 ((extractStridedSlice S1x8x513x513 ![0, 0, 2, 2] · slices_S1x8x516x516_S1x8x513x513_0_0_2_2) : (⟨S1x8x516x516, .f32⟩ : BufTy).Contents (Elt F) → (⟨S1x8x513x513, .f32⟩ : BufTy).Contents (Elt F)),
    unary main_v67 main_v69 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v69 main_v68 main_v70 (mulf : (⟨S1x8x513x513, .f32⟩ : BufTy).Contents (Elt F) → (⟨S1x8x513x513, .f32⟩ : BufTy).Contents (Elt F) → (⟨S1x8x513x513, .f32⟩ : BufTy).Contents (Elt F)),
    binary main_v66 main_v70 main_v71 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v72 ((extractStridedSlice S1x8x1x1 ![0, 0, 2, 3] · slices_S1x8x4x4_S1x8x1x1_0_0_2_3) : (⟨S1x8x4x4, .f32⟩ : BufTy).Contents (Elt F) → (⟨S1x8x1x1, .f32⟩ : BufTy).Contents (Elt F)),
    unary main_v14 main_v73 ((extractStridedSlice S1x8x513x513 ![0, 0, 2, 3] · slices_S1x8x516x516_S1x8x513x513_0_0_2_3) : (⟨S1x8x516x516, .f32⟩ : BufTy).Contents (Elt F) → (⟨S1x8x513x513, .f32⟩ : BufTy).Contents (Elt F)),
    unary main_v72 main_v74 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v74 main_v73 main_v75 (mulf : (⟨S1x8x513x513, .f32⟩ : BufTy).Contents (Elt F) → (⟨S1x8x513x513, .f32⟩ : BufTy).Contents (Elt F) → (⟨S1x8x513x513, .f32⟩ : BufTy).Contents (Elt F)),
    binary main_v71 main_v75 main_v76 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v77 ((extractStridedSlice S1x8x1x1 ![0, 0, 3, 0] · slices_S1x8x4x4_S1x8x1x1_0_0_3_0) : (⟨S1x8x4x4, .f32⟩ : BufTy).Contents (Elt F) → (⟨S1x8x1x1, .f32⟩ : BufTy).Contents (Elt F)),
    unary main_v14 main_v78 ((extractStridedSlice S1x8x513x513 ![0, 0, 3, 0] · slices_S1x8x516x516_S1x8x513x513_0_0_3_0) : (⟨S1x8x516x516, .f32⟩ : BufTy).Contents (Elt F) → (⟨S1x8x513x513, .f32⟩ : BufTy).Contents (Elt F)),
    unary main_v77 main_v79 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v79 main_v78 main_v80 (mulf : (⟨S1x8x513x513, .f32⟩ : BufTy).Contents (Elt F) → (⟨S1x8x513x513, .f32⟩ : BufTy).Contents (Elt F) → (⟨S1x8x513x513, .f32⟩ : BufTy).Contents (Elt F)),
    binary main_v76 main_v80 main_v81 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v82 ((extractStridedSlice S1x8x1x1 ![0, 0, 3, 1] · slices_S1x8x4x4_S1x8x1x1_0_0_3_1) : (⟨S1x8x4x4, .f32⟩ : BufTy).Contents (Elt F) → (⟨S1x8x1x1, .f32⟩ : BufTy).Contents (Elt F)),
    unary main_v14 main_v83 ((extractStridedSlice S1x8x513x513 ![0, 0, 3, 1] · slices_S1x8x516x516_S1x8x513x513_0_0_3_1) : (⟨S1x8x516x516, .f32⟩ : BufTy).Contents (Elt F) → (⟨S1x8x513x513, .f32⟩ : BufTy).Contents (Elt F)),
    unary main_v82 main_v84 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v84 main_v83 main_v85 (mulf : (⟨S1x8x513x513, .f32⟩ : BufTy).Contents (Elt F) → (⟨S1x8x513x513, .f32⟩ : BufTy).Contents (Elt F) → (⟨S1x8x513x513, .f32⟩ : BufTy).Contents (Elt F)),
    binary main_v81 main_v85 main_v86 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v87 ((extractStridedSlice S1x8x1x1 ![0, 0, 3, 2] · slices_S1x8x4x4_S1x8x1x1_0_0_3_2) : (⟨S1x8x4x4, .f32⟩ : BufTy).Contents (Elt F) → (⟨S1x8x1x1, .f32⟩ : BufTy).Contents (Elt F)),
    unary main_v14 main_v88 ((extractStridedSlice S1x8x513x513 ![0, 0, 3, 2] · slices_S1x8x516x516_S1x8x513x513_0_0_3_2) : (⟨S1x8x516x516, .f32⟩ : BufTy).Contents (Elt F) → (⟨S1x8x513x513, .f32⟩ : BufTy).Contents (Elt F)),
    unary main_v87 main_v89 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v89 main_v88 main_v90 (mulf : (⟨S1x8x513x513, .f32⟩ : BufTy).Contents (Elt F) → (⟨S1x8x513x513, .f32⟩ : BufTy).Contents (Elt F) → (⟨S1x8x513x513, .f32⟩ : BufTy).Contents (Elt F)),
    binary main_v86 main_v90 main_v91 (addf : (⟨S1x8x513x513, .f32⟩ : BufTy).Contents (Elt F) → (⟨S1x8x513x513, .f32⟩ : BufTy).Contents (Elt F) → (⟨S1x8x513x513, .f32⟩ : BufTy).Contents (Elt F)),
    unary main_v15 main_v92 ((extractStridedSlice S1x8x1x1 ![0, 0, 3, 3] · slices_S1x8x4x4_S1x8x1x1_0_0_3_3) : (⟨S1x8x4x4, .f32⟩ : BufTy).Contents (Elt F) → (⟨S1x8x1x1, .f32⟩ : BufTy).Contents (Elt F)),
    unary main_v14 main_v93 ((extractStridedSlice S1x8x513x513 ![0, 0, 3, 3] · slices_S1x8x516x516_S1x8x513x513_0_0_3_3) : (⟨S1x8x516x516, .f32⟩ : BufTy).Contents (Elt F) → (⟨S1x8x513x513, .f32⟩ : BufTy).Contents (Elt F)),
    unary main_v92 main_v94 (broadcastInDim S1x8x513x513 ![0, 1, 2, 3] bcast_S1x8x1x1_S1x8x513x513_0_1_2_3 : (⟨S1x8x1x1, .f32⟩ : BufTy).Contents (Elt F) → (⟨S1x8x513x513, .f32⟩ : BufTy).Contents (Elt F)),
    binary main_v94 main_v93 main_v95 (mulf : (⟨S1x8x513x513, .f32⟩ : BufTy).Contents (Elt F) → (⟨S1x8x513x513, .f32⟩ : BufTy).Contents (Elt F) → (⟨S1x8x513x513, .f32⟩ : BufTy).Contents (Elt F)),
    binary main_v91 main_v95 main_v96 (addf : (⟨S1x8x513x513, .f32⟩ : BufTy).Contents (Elt F) → (⟨S1x8x513x513, .f32⟩ : BufTy).Contents (Elt F) → (⟨S1x8x513x513, .f32⟩ : BufTy).Contents (Elt F)) ]

/-- Running one list after another is running the two in turn. -/
theorem after_two (l₁ l₂ : List (HloOp τ sig (Elt F))) (V : Valuation τ sig (Elt F)) :
    after (l₁ ++ l₂) V = after l₂ (after l₁ V) := by
  induction l₁ generalizing V with
  | nil => rfl
  | cons o l ih => exact ih _

set_option maxHeartbeats 4000000 in
/-- `@main` is that straight line. -/
theorem main_eq (c : Dev nD) : main (F := F) c = seq (opsA ++ opsB) := rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨reshape_bufs_sub .., binary_bufs_sub .., unary_bufs_sub .., unary_bufs_sub .., unary_bufs_sub .., binary_bufs_sub .., nullary_bufs_sub .., binary_bufs_sub .., unary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub ..⟩

theorem opsB_sub : (opsB : List (HloOp τ sig (Elt F))).Forall fun op => op.bufs ⊆ tcRefs τ sig :=
  ⟨unary_bufs_sub .., unary_bufs_sub .., unary_bufs_sub .., binary_bufs_sub .., nullary_bufs_sub .., unary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub ..⟩

/-- Every operation works on the core's own buffers. -/
theorem ops_sub : (opsA ++ opsB : List (HloOp τ sig (Elt F))).Forall fun op => op.bufs ⊆ tcRefs τ sig :=
  List.forall_iff_forall_mem.mpr fun op h => (List.mem_append.mp h).elim
    (List.forall_iff_forall_mem.mp opsA_sub op) (List.forall_iff_forall_mem.mp opsB_sub op)

theorem opsA_fresh : ∀ op ∈ (opsA : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

/-! ## What the operations leave -/

set_option maxHeartbeats 8000000 in
/-- The padded histogram. -/
theorem after_padded (V : Valuation τ sig (Elt F)) :
    after opsA V (main_v14 : DevRef τ sig)
      = padded (hist (mag (grads (feats (V (main_arg0 : DevRef τ sig)) (V (main_arg1 : DevRef τ sig)))))
          (hot (bins (cosines (feats (V (main_arg0 : DevRef τ sig)) (V (main_arg1 : DevRef τ sig))))))) := by
  simp only [opsA, TRef.binary, TRef.nullary, TRef.ternary, TRef.quaternary, TRef.unary, TRef.toBuf, TRef.ofBuf, cast_eq]
  after_results_simp <;> rfl

set_option maxHeartbeats 8000000 in
/-- The taps. -/
theorem after_taps (V : Valuation τ sig (Elt F)) :
    after opsA V (main_v15 : DevRef τ sig) = taps (V (main_arg2 : DevRef τ sig)) := by
  simp only [opsA, TRef.binary, TRef.nullary, TRef.ternary, TRef.quaternary, TRef.unary, TRef.toBuf, TRef.ofBuf, cast_eq]
  after_results_simp <;> rfl

set_option maxHeartbeats 20000000 in
/-- The sum over the taps. -/
theorem after_tapSum (V : Valuation τ sig (Elt F)) :
    after opsB V (main_v96 : DevRef τ sig) = tapSum (V (main_v14 : DevRef τ sig)) (V (main_v15 : DevRef τ sig)) := by
  simp only [opsB]
  after_results_simp <;> rfl

set_option maxHeartbeats 8000000 in
/-- Argument 0 is untouched. -/
theorem after_arg0 (V : Valuation τ sig (Elt F)) :
    after (opsA ++ opsB) V (main_arg0 : DevRef τ sig) = V (main_arg0 : DevRef τ sig) := by
  rw [after_two]
  simp only [opsA, opsB, TRef.binary, TRef.nullary, TRef.ternary, TRef.quaternary, TRef.unary, TRef.toBuf, TRef.ofBuf, cast_eq]
  after_results_simp <;> rfl

set_option maxHeartbeats 8000000 in
/-- Argument 1 is untouched. -/
theorem after_arg1 (V : Valuation τ sig (Elt F)) :
    after (opsA ++ opsB) V (main_arg1 : DevRef τ sig) = V (main_arg1 : DevRef τ sig) := by
  rw [after_two]
  simp only [opsA, opsB, TRef.binary, TRef.nullary, TRef.ternary, TRef.quaternary, TRef.unary, TRef.toBuf, TRef.ofBuf, cast_eq]
  after_results_simp <;> rfl

set_option maxHeartbeats 8000000 in
/-- Argument 2 is untouched. -/
theorem after_arg2 (V : Valuation τ sig (Elt F)) :
    after (opsA ++ opsB) V (main_arg2 : DevRef τ sig) = V (main_arg2 : DevRef τ sig) := by
  rw [after_two]
  simp only [opsA, opsB, TRef.binary, TRef.nullary, TRef.ternary, TRef.quaternary, TRef.unary, TRef.toBuf, TRef.ofBuf, cast_eq]
  after_results_simp <;> rfl

/-- On every device, from any memory with zero counters: every weakly fair execution of `@main` terminates with the result
    buffer at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v96).trans (by rw [after_two]; exact (after_tapSum _).trans (congrArg₂ tapSum (after_padded _) (after_taps _))),
       (h c main_arg0).trans (after_arg0 _), (h c main_arg1).trans (after_arg1 _), (h c main_arg2).trans (after_arg2 _)⟩)
    (run_seq scopedRefs_eq scopedSems_eq defs main (fun _ => opsA ++ opsB) main_eq (fun _ => ops_sub) m ρ
      (fun _ op h => (List.mem_append.mp h).elim (opsA_fresh op) (opsB_fresh op)))

end Cert.Proof.RefRun

end
-- ==== Proof.ArgMax.lean ====
/- Hand-written, untrusted: the reference's arg-max at a pixel. The host's reduction folds the eight (value, index) pairs of a
   pixel from (-∞, 0), in index order; over the extended reals every step keeps the first greatest value, so the index it ends
   with is `Math.firstMax`'s. -/
module

public import proofs.«01_k».proof.Proof.RefRun
public import proofs.«01_k».proof.Proof.Math
public import Idealize.ShloMosaic.Lib.Pointwise
public import Idealize.ShloMosaic.PureOps.Reduce
public import Idealize.ShloMosaic.PureOps.Ideal.Laws
public import Mathlib.Data.List.Sort

@[expose] public section

set_option maxRecDepth 16384

noncomputable section

namespace Cert.Proof.ArgMax

open Cert.ReferenceIdeal Cert.ReferenceIdeal.Gen Idealize.ShloMosaic Idealize.ShloMosaic.TcCoe Idealize.ShloMosaic.Pointwise Cert.Proof.Math

/-- The row-major positions of a pixel's eight values, in channel order. -/
def pos (r l : Fin 512) (k : Fin 8) : Fin S1x8x512x512.numel := S1x8x512x512.rowMajor (ix4 0 k r l)

/-- They increase with the channel. -/
theorem pos_lt (r l : Fin 512) {k k' : Fin 8} (h : k < k') : pos r l k < pos r l k' := by
  have e (q : Fin 8) : (pos r l q).val = q.val * (512 * 512) + r.val * 512 + l.val := by
    unfold pos
    rw [Shape.rowMajor_val_four]
    show ((0 * 8 + q.val) * 512 + r.val) * 512 + l.val = _
    omega
  have h' : k.val < k'.val := h
  exact Fin.lt_def.2 (by rw [e, e]; omega)

/-- The positions that reduce to a pixel are those eight, in that order. -/
theorem fiber_eq (r l : Fin 512) :
    (List.finRange S1x8x512x512.numel).filter (fun n => reducesTo_S1x8x512x512_S1x512x512_d1.drop (S1x8x512x512.rowMajor.symm n) = (ix3 0 r l : S1x512x512.Idx))
      = (List.finRange 8).map (pos r l) := by
  refine List.Pairwise.eq_of_mem_iff (r := (· < ·)) ((List.pairwise_lt_finRange _).filter _)
    (List.pairwise_map.2 ((List.pairwise_lt_finRange 8).imp fun h => pos_lt r l h)) fun n => ?_
  simp only [List.mem_filter, List.mem_finRange, true_and, decide_eq_true_eq, List.mem_map]
  rw [Shape.ReducesTo.fiber_r4_a1]
  refine exists_congr fun k => ?_
  unfold pos
  rw [← Equiv.eq_symm_apply]
  rfl

/-- A small word below a channel's number is below it in the signed order. -/
theorem slt_of_lt (b : BitVec 32) (k : Fin 8) (h : b.toNat < k.val) : b.slt (BitVec.ofNat 32 k.val) = true := by
  have hk := k.isLt
  have e : (BitVec.ofNat 32 k.val).toNat = k.val := by rw [BitVec.toNat_ofNat]; omega
  rw [BitVec.slt, decide_eq_true_eq, BitVec.toInt_eq_toNat_of_lt (by omega), BitVec.toInt_eq_toNat_of_lt (by omega), e]
  exact_mod_cast h

/-- One step of the reference's arg-max, from a best pair of a smaller index, is `Math.step`. -/
theorem reducer_eq (v : Fin 8 → EReal) (p : EReal × BitVec 32) (k : Fin 8) (hp : p.2.toNat < k.val) :
    reducer_argmax_f32_i32 (F := Ideal) p (v k, BitVec.ofNat 32 k.val) = step v p k := by
  have hs := slt_of_lt p.2 k hp
  obtain ⟨a, b⟩ := p
  unfold reducer_argmax_f32_i32 step
  rcases lt_trichotomy a (v k) with h | h | h
  · simp [Ideal.cmpf_def, Ideal.cmp, Scalar.select, IntOp.ori, IntOp.andi, IntOp.cmpi, h, h.ne, h.not_gt]
  · simp at hs; simp [Ideal.cmpf_def, Ideal.cmp, Scalar.select, IntOp.ori, IntOp.andi, IntOp.cmpi, h, hs]
  · simp [Ideal.cmpf_def, Ideal.cmp, Scalar.select, IntOp.ori, IntOp.andi, IntOp.cmpi, h, h.ne', h.not_gt]

/-- A step's index stays below the next channel's number. -/
theorem step_lt (v : Fin 8 → EReal) (p : EReal × BitVec 32) (k k' : Fin 8) (h : k < k') (hp : p.2.toNat < k.val) :
    (step v p k).2.toNat < k'.val := by
  have hk := k.isLt
  have h' : k.val < k'.val := h
  unfold step
  split_ifs
  · show (BitVec.ofNat 32 k.val).toNat < _
    rw [BitVec.toNat_ofNat]; omega
  · omega

/-- From the pair (-∞, 0) the first step takes channel 0. -/
theorem reducer_first (v : Fin 8 → EReal) : reducer_argmax_f32_i32 (F := Ideal) ((⊥ : EReal), 0#32) (v 0, BitVec.ofNat 32 (0 : Fin 8).val) = (v 0, 0#32) := by
  unfold reducer_argmax_f32_i32
  simp [Ideal.cmpf_def, Ideal.cmp, Scalar.select, IntOp.ori, IntOp.andi, IntOp.cmpi]

/-- Along a list of channels in increasing order the reference's fold is the fold of `Math.step`. -/
theorem foldl_eq (v : Fin 8 → EReal) : ∀ (ks : List (Fin 8)) (p : EReal × BitVec 32), ks.Pairwise (· < ·) → (∀ k ∈ ks, p.2.toNat < k.val) →
    ks.foldl (fun q k => reducer_argmax_f32_i32 (F := Ideal) q (v k, BitVec.ofNat 32 k.val)) p = ks.foldl (step v) p
  | [], _, _, _ => rfl
  | k :: ks, p, h, hp => by
    obtain ⟨h1, h2⟩ := List.pairwise_cons.1 h
    have hk := hp k (by simp)
    rw [List.foldl_cons, List.foldl_cons, reducer_eq v p k hk]
    exact foldl_eq v ks _ h2 fun k' hk' => step_lt v p k k' (h1 k' hk') hk

/-- The reference's fold of a pixel's eight pairs ends with the first maximum. -/
theorem fold_firstMax (v : Fin 8 → EReal) :
    (List.finRange 8).foldl (fun q k => reducer_argmax_f32_i32 (F := Ideal) q (v k, BitVec.ofNat 32 k.val)) ((⊥ : EReal), 0#32) = firstMax v := by
  have e : List.finRange 8 = 0 :: [1, 2, 3, 4, 5, 6, 7] := by decide
  have h : ∀ k ∈ ([1, 2, 3, 4, 5, 6, 7] : List (Fin 8)), (0#32).toNat < k.val := by decide
  unfold firstMax
  rw [e, List.foldl_cons, reducer_first]
  exact foldl_eq v [1, 2, 3, 4, 5, 6, 7] (v 0, 0#32) (by decide) h

/-- The reference's initial value is -∞. -/
theorem minusInf : (constant (F := Ideal) S_ .f32 0xFF800000#32) (Shape.Idx.first h_S_) = (⊥ : EReal) := by
  show Ideal.ofBits .f32 0xFF800000#32 = ⊥
  simp [Ideal.ofBits, Ideal.ieee]

/-- The pairs that the arg-max of a pixel folds: the eight values with their channels. -/
theorem fiberPairs_eq (k : FVec Ideal S1x8x512x512 .f32) (r l : Fin 512) :
    Host.argReduceFiber k (iotaInDim S1x8x512x512 32 1) reducesTo_S1x8x512x512_S1x512x512_d1 (ix3 0 r l)
      = (List.finRange 8).map fun q => (k (ix4 0 q r l), BitVec.ofNat 32 q.val) := by
  unfold Host.argReduceFiber
  rw [fiber_eq, List.map_map]
  refine List.map_congr_left fun q _ => ?_
  have hx : S1x8x512x512.rowMajor.symm (pos r l q) = ix4 0 q r l := Equiv.symm_apply_apply _ _
  show (k (S1x8x512x512.rowMajor.symm (pos r l q)), iotaInDim S1x8x512x512 32 1 (S1x8x512x512.rowMajor.symm (pos r l q))) = _
  rw [hx]
  rfl

/-- The reference's arg-max reduction at a pixel is the fold over its pairs. -/
theorem argReduce_apply (k : FVec Ideal S1x8x512x512 .f32) (r l : Fin 512) :
    Host.argReduce reducer_argmax_f32_i32 k (iotaInDim S1x8x512x512 32 1) (constant S_ .f32 0xFF800000#32) (constantI S_ 32 0#32)
        reducesTo_S1x8x512x512_S1x512x512_d1 h_S_ (ix3 0 r l)
      = (Host.argReduceFiber k (iotaInDim S1x8x512x512 32 1) reducesTo_S1x8x512x512_S1x512x512_d1 (ix3 0 r l)).foldl reducer_argmax_f32_i32
          ((constant (F := Ideal) S_ .f32 0xFF800000#32) (Shape.Idx.first h_S_), 0#32) :=
  (congrFun (Ideal.argReduce_eq_reduce2 reducer_argmax_f32_i32 k (iotaInDim S1x8x512x512 32 1) (constant S_ .f32 0xFF800000#32) (constantI S_ 32 0#32)
    reducesTo_S1x8x512x512_S1x512x512_d1 h_S_) (ix3 0 r l)).trans
    (Host.reduce2_eq_foldl_fiber reducer_argmax_f32_i32 k (iotaInDim S1x8x512x512 32 1) (constant S_ .f32 0xFF800000#32) (constantI S_ 32 0#32)
      reducesTo_S1x8x512x512_S1x512x512_d1 h_S_ (ix3 0 r l))

/-- The reference's arg-max reduction at a pixel is the first maximum. -/
theorem argReduce_firstMax (k : FVec Ideal S1x8x512x512 .f32) (r l : Fin 512) :
    Host.argReduce reducer_argmax_f32_i32 k (iotaInDim S1x8x512x512 32 1) (constant S_ .f32 0xFF800000#32) (constantI S_ 32 0#32)
        reducesTo_S1x8x512x512_S1x512x512_d1 h_S_ (ix3 0 r l) = firstMax fun q => k (ix4 0 q r l) := by
  rw [argReduce_apply, fiberPairs_eq, List.foldl_map, minusInf]
  exact fold_firstMax fun q => k (ix4 0 q r l)

/-- The reference's bins are the arg-max reduction's second components. -/
theorem bins_eq : RefRun.bins (F := Ideal) = fun k j => Prod.snd (Host.argReduce reducer_argmax_f32_i32 k (iotaInDim S1x8x512x512 32 1)
    (constant S_ .f32 0xFF800000#32) (constantI S_ 32 0#32) reducesTo_S1x8x512x512_S1x512x512_d1 h_S_ j) := rfl

/-- The reference's bin at a pixel is the first maximum of its eight cosines. -/
theorem bins_apply (k : FVec Ideal S1x8x512x512 .f32) (r l : Fin 512) :
    RefRun.bins k (ix3 0 r l) = (firstMax fun q => k (ix4 0 q r l)).2 :=
  (congrFun (congrFun bins_eq k) (ix3 0 r l)).trans (congrArg Prod.snd (argReduce_firstMax k r l))

end Cert.Proof.ArgMax

end
-- ==== Proof.RefValue.lean ====
/- Hand-written, untrusted: what the reference's result holds. Stage by stage at an index: the responses, the magnitude, the
   one-hot of the bin, the histogram, its padding, and the sixteen shifted products with weights that are all one; so the
   result is, at (0, ch, y, x), the 4 × 4 window sum at (y, x) of channel `ch` of the histogram (`result_apply`). -/
module

public import proofs.«01_k».proof.Proof.ArgMax

@[expose] public section

set_option maxRecDepth 16384

noncomputable section

namespace Cert.Proof.RefValue

open Cert.ReferenceIdeal Cert.ReferenceIdeal.Gen Idealize.ShloMosaic Idealize.ShloMosaic.TcCoe Idealize.ShloMosaic.Pointwise Cert.Proof.Math

/-- The image argument by channel, row and column. -/
abbrev img (x : FVec Ideal S1x2x512x512 .f32) (k : Fin 2) (r l : Fin 512) : EReal := x (ix4 0 k r l)

/-- The filter weights by filter and channel. -/
abbrev wts (w : FVec Ideal S10x2x1x1 .f32) (k : Fin 10) (c : Fin 2) : EReal := w (ix4 k c 0 0)

/-- A response at a pixel. -/
theorem feats_apply (x : FVec Ideal S1x2x512x512 .f32) (w : FVec Ideal S10x2x1x1 .f32) (k : Fin 10) (r l : Fin 512) :
    RefRun.feats x w (ix4 0 k r l) = resp (wts w) (img x 0 r l) (img x 1 r l) k := by
  pointwise [RefRun.feats]
  simp only [Fin.sum_univ_two, resp]
  rw [mul_comm (w (ix4 k 0 0 0)), mul_comm (w (ix4 k 1 0 0))]

/-- The magnitude at a pixel, from the two gradients. -/
theorem mag_apply (f : FVec Ideal S1x10x512x512 .f32) (r l : Fin 512) :
    RefRun.mag (RefRun.grads f) (ix3 0 r l) = Ideal.sqrt (f (ix4 0 8 r l) * f (ix4 0 8 r l) + f (ix4 0 9 r l) * f (ix4 0 9 r l)) := by
  pointwise [RefRun.mag, RefRun.grads]
  rw [Fin.sum_univ_two]
  rfl

/-- A cosine at a pixel. -/
theorem cosines_apply (f : FVec Ideal S1x10x512x512 .f32) (k : Fin 8) (r l : Fin 512) :
    RefRun.cosines f (ix4 0 k r l) = f (ix4 0 ⟨k.val, by omega⟩ r l) := by
  pointwise [RefRun.cosines]

/-- The one-hot encoding at a channel and a pixel. -/
theorem hot_apply (b : IVec S1x512x512 32) (k : Fin 8) (r l : Fin 512) :
    RefRun.hot (F := Ideal) b (ix4 0 k r l) = if b (ix3 0 r l) = BitVec.ofNat 32 k.val then (1 : EReal) else 0 := by
  pointwise [RefRun.hot]
  show ((((IntOp.cmpi .eq (b (ix3 0 r l)) (BitVec.ofNat 32 k.val)).toNat : ℝ)) : EReal) = _
  by_cases h : b (ix3 0 r l) = BitVec.ofNat 32 k.val
  · simp [IntOp.cmpi, h]
  · simp [IntOp.cmpi, h, beq_eq_false_iff_ne.2 h]

/-- The histogram at a channel and a pixel. -/
theorem hist_apply (g : FVec Ideal S1x512x512 .f32) (h : FVec Ideal S1x8x512x512 .f32) (k : Fin 8) (r l : Fin 512) :
    RefRun.hist g h (ix4 0 k r l) = g (ix3 0 r l) * h (ix4 0 k r l) := by
  pointwise [RefRun.hist]

/-- The padded histogram at a channel, row and column. -/
theorem padded_apply (h : FVec Ideal S1x8x512x512 .f32) (k : Fin 8) (r l : Fin 516) :
    RefRun.padded h (ix4 0 k r l) = cell (fun y x => h (ix4 0 k y x)) r.val l.val := by
  pointwise [RefRun.padded]
  have e0 : (FloatOps.sitofp .f32 0#32 : Ideal .f32) = (0 : EReal) := by
    show (((0#32).toInt : ℝ) : EReal) = 0
    simp
  unfold cell
  rw [e0]
  split_ifs <;> first | rfl | omega

/-- A tap's weight. -/
theorem taps_apply (a : FVec Ideal S8x1x4x4 .f32) (k : Fin 8) (i j : Fin 4) : RefRun.taps a (ix4 0 k i j) = a (ix4 k 0 i j) := by
  pointwise [RefRun.taps]

/-- The sum of the sixteen taps at a channel and a pixel, the weights being one. -/
theorem tapSum_apply (p : FVec Ideal S1x8x516x516 .f32) (w : FVec Ideal S1x8x4x4 .f32) (hw : ∀ k i j, w (ix4 0 k i j) = (1 : EReal)) (k : Fin 8) (y x : Fin 513) :
    RefRun.tapSum p w (ix4 0 k y x) = ∑ i : Fin 4, ∑ j : Fin 4, (p (ix4 0 k ⟨y.val + i.val, by omega⟩ ⟨x.val + j.val, by omega⟩) : EReal) := by
  pointwise [RefRun.tapSum]
  simp only [hw, one_mul, Fin.sum_univ_four, Fin.val_zero, Fin.val_one, Fin.val_two, add_zero, add_assoc, Nat.add_comm _ y.val, Nat.add_comm _ x.val]
  rfl

/-- The reference's histogram at a channel and a pixel. -/
theorem hist_channel (x : FVec Ideal S1x2x512x512 .f32) (w : FVec Ideal S10x2x1x1 .f32) (k : Fin 8) (r l : Fin 512) :
    RefRun.hist (RefRun.mag (RefRun.grads (RefRun.feats x w))) (RefRun.hot (RefRun.bins (RefRun.cosines (RefRun.feats x w)))) (ix4 0 k r l)
      = channel (img x) (wts w) (BitVec.ofNat 32 k.val) r l := by
  rw [hist_apply, hot_apply, mag_apply, ArgMax.bins_apply, feats_apply, feats_apply]
  simp only [cosines_apply, feats_apply]
  unfold channel bin magnitude
  split_ifs
  · exact mul_one _
  · exact mul_zero _

/-- The reference's result at (0, k, y, x), where the accumulation weights are one. -/
theorem result_apply (x : FVec Ideal S1x2x512x512 .f32) (w : FVec Ideal S10x2x1x1 .f32) (a : FVec Ideal S8x1x4x4 .f32)
    (ha : ∀ k i j, a (ix4 k 0 i j) = (1 : EReal)) (k : Fin 8) (y z : Fin 513) :
    RefRun.result x w a (ix4 0 k y z) = window (channel (img x) (wts w) (BitVec.ofNat 32 k.val)) y.val z.val := by
  unfold RefRun.result window
  rw [tapSum_apply _ _ fun k i j => (taps_apply a k i j).trans (ha k i j)]
  simp only [padded_apply, hist_channel]

end Cert.Proof.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_acc_is_ones
public import Idealize.ShloMosaic.Adequacy
public import Idealize.ShloMosaic.Init
public import proofs.«01_k».proof.Proof.KerValue
public import proofs.«01_k».proof.Proof.RefValue

@[expose] public section

noncomputable section

namespace Cert.Proof

open Idealize.ShloMosaic Idealize.SL.Sem Idealize.ShloMosaic.Pointwise

/-- The bit pattern of 1.0 is the number one. -/
theorem one_word : Ideal.ofBits .f32 0x3F800000#32 = (1 : EReal) := by
  simp [Ideal.ofBits, Ideal.ieee, -EReal.coe_mul]; norm_num

/-- Where the precondition's array is all ones, every accumulation weight is one. -/
theorem weight_one (x : FVec Ideal Cert.Pre_acc_is_ones.S1x2x512x512 .f32) (w : FVec Ideal Cert.Pre_acc_is_ones.S10x2x1x1 .f32)
    (a : FVec Ideal Cert.Pre_acc_is_ones.S8x1x4x4 .f32) (h : Cert.Pre_acc_is_ones.fn x w a = fun _ => 1#1)
    (k : Fin 8) (i j : Fin 4) : a (ix4 k 0 i j) = (1 : EReal) := by
  have e : Ideal.cmp .oeq (a (ix4 k 0 i j)) (Ideal.ofBits .f32 0x3F800000#32) = 1#1 := congrFun h (ix4 k 0 i j)
  by_contra hne
  rw [one_word] at e
  simp [Ideal.cmp, hne] at e

/-- The kernel's array is the reference's result of the same arguments, where the accumulation weights are all one. -/
theorem result_eq (m : (ℓ : Loc Cert.KernelIdeal.nD Cert.KernelIdeal.τ Cert.KernelIdeal.sig) → Buf (Elt Ideal) ℓ)
    (c : Dev Cert.KernelIdeal.nD) (a : FVec Ideal Cert.ReferenceIdeal.S8x1x4x4 .f32) (ha : ∀ k i j, a (ix4 k 0 i j) = (1 : EReal)) :
    RefRun.result (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) a
      = Cert.KernelIdeal.Value.G2 m c := by
  funext i
  obtain ⟨k, y, z, rfl⟩ : ∃ (k : Fin 8) (y z : Fin 513), i = ix4 0 k y z :=
    ⟨i 1, i 2, i 3, (eq_ix4 i).trans (congrArg (fun t => ix4 t (i 1) (i 2) (i 3)) (Subsingleton.elim (α := Fin 1) _ _))⟩
  exact (RefValue.result_apply _ _ a ha k y z).trans (KerValue.G2_apply m c k y z).symm

/-- The reference runs, leaves its arguments as they were and no semaphore counter above zero: it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) r.2⟩) (RefRun.run m g)

/-- Over the extended reals the kernel and the reference, on the same arguments with accumulation weights all one, both run,
    end with equal results and leave their arguments as they were. -/
theorem values : Cert.algebraic_KernelIdeal_ReferenceIdeal_pre_acc_is_ones := by
  intro m g m' g' hp ha
  refine ⟨fun c => Cert.KernelIdeal.Value.G2 m c, Cert.KernelIdeal.Value.run m g, ?_⟩
  refine (θ_run _ _ _).mono (fun r h c => ⟨(h c).1.trans ?_, (h c).2⟩) (RefRun.run m' g')
  rw [(ha c).1, (ha c).2.1, (ha c).2.2]
  exact result_eq m c _ (weight_one _ _ _ (hp c))

/-- Every claim. -/
theorem claim : Cert.Claim :=
  ⟨Cert.Kernel.Gen.facts, Cert.KernelIdeal.Gen.facts, Cert.ReferenceIdeal.Gen.facts, Cert.Pre_acc_is_ones.Gen.facts,
    fun m g _ => Cert.Kernel.Gen.frame m g, fun m g _ => Cert.KernelIdeal.Gen.frame m g, fun m g _ => Cert.KernelIdeal.Gen.frame m g,
    fun m g _ => frame_reference m g, fun m g _ => frame_reference m g, trivial, values⟩

end Cert.Proof

end
